-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x1000 : Shape := ⟨2, ![32768, 1000]⟩
abbrev S15 : Shape := ⟨1, ![15]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel
  bcast_S_S15 : S_.BroadcastsInDim S15 (![] : Fin 0 → Fin S15.rank)
  reducesTo_S15_S_d0 : S15.ReducesTo [0] S_

variable [Facts]

def fn {F : FTy → Type} [FloatOps F] (main_arg0 : FVec F S32768x1000 .f32) (main_arg1 : FVec F S15 .f32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  let main_v4 : FVec F S15 .f32 := Host.absf main_arg1
  let main_cst_0 : FVec F S_ .f32 := constant S_ .f32 0x7F800000#32
  let main_v5 : FVec F S15 .f32 := broadcastInDim S15 ![] bcast_S_S15 main_cst_0
  let main_v6 : IVec S15 1 := cmpf .olt main_v4 main_v5
  let main_c_1 : IVec S_ 1 := constantI S_ 1 1#1
  let main_v7 : IVec S_ 1 := (fun x v => Host.reduce IntOp.andi x v reducesTo_S15_S_d0 h_S_) main_v6 main_c_1
  let main_v8 : IVec S_ 1 := andi main_v3 main_v7
  main_v8
-- ==== Kernel.lean ====
abbrev S32768x1000 : Shape := ⟨2, ![32768, 1000]⟩
abbrev S15 : Shape := ⟨1, ![15]⟩
abbrev S1000x32768 : Shape := ⟨2, ![1000, 32768]⟩
abbrev S1x32768 : Shape := ⟨2, ![1, 32768]⟩
abbrev S1000x2048 : Shape := ⟨2, ![1000, 2048]⟩
abbrev S1x2048 : Shape := ⟨2, ![1, 2048]⟩
abbrev S2048 : Shape := ⟨1, ![2048]⟩
abbrev S1 : Shape := ⟨1, ![1]⟩
abbrev S32768 : Shape := ⟨1, ![32768]⟩

abbrev nBuf : Space → Nat
  | .hbm => 9
  | .vmem => 8
  | .smem => 1
  | _ => 0

abbrev bufTy : (tb : Table) → Fin (tcTables nBuf tb) → BufTy
  | .hbm, ⟨0, _⟩ => ⟨S32768x1000, .f32⟩
  | .hbm, ⟨1, _⟩ => ⟨S15, .f32⟩
  | .hbm, ⟨2, _⟩ => ⟨S1000x32768, .f32⟩
  | .hbm, ⟨3, _⟩ => ⟨S1000x32768, .f32⟩
  | .hbm, ⟨4, _⟩ => ⟨S1x32768, .f32⟩
  | .hbm, ⟨5, _⟩ => ⟨S1x32768, .i32⟩
  | .hbm, ⟨6, _⟩ => ⟨S32768x1000, .f32⟩
  | .hbm, ⟨7, _⟩ => ⟨S32768, .f32⟩
  | .hbm, ⟨8, _⟩ => ⟨S32768, .i32⟩
  | .local _ .vmem, ⟨0, _⟩ => ⟨S1000x2048, .f32⟩
  | .local _ .vmem, ⟨1, _⟩ => ⟨S1000x2048, .f32⟩
  | .local _ .vmem, ⟨2, _⟩ => ⟨S1000x2048, .f32⟩
  | .local _ .vmem, ⟨3, _⟩ => ⟨S1000x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .i32⟩
  | .local _ .vmem, ⟨7, _⟩ => ⟨S1x2048, .i32⟩
  | .local _ .smem, ⟨0, _⟩ => ⟨S15, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S15 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x1000 : Shape := ⟨2, ![32768, 1000]⟩
abbrev S15 : Shape := ⟨1, ![15]⟩
abbrev S_ : Shape := ⟨0, ![]⟩
abbrev S32768 : Shape := ⟨1, ![32768]⟩
abbrev S32768x1 : Shape := ⟨2, ![32768, 1]⟩
abbrev S1x1000 : Shape := ⟨2, ![1, 1000]⟩

abbrev nBuf : Space → Nat
  | .hbm => 90
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S15, .f32⟩
  | .hbm, ⟨2, _⟩ => ⟨S_, .f32⟩
  | .hbm, ⟨3, _⟩ => ⟨S32768, .f32⟩
  | .hbm, ⟨4, _⟩ => ⟨S_, .f32⟩
  | .hbm, ⟨5, _⟩ => ⟨S32768, .f32⟩
  | .hbm, ⟨6, _⟩ => ⟨S32768, .f32⟩
  | .hbm, ⟨7, _⟩ => ⟨S32768x1, .f32⟩
  | .hbm, ⟨8, _⟩ => ⟨S32768x1000, .f32⟩
  | .hbm, ⟨9, _⟩ => ⟨S32768x1000, .f32⟩
  | .hbm, ⟨10, _⟩ => ⟨S32768x1000, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x1000, .f32⟩
  | .hbm, ⟨15, _⟩ => ⟨S32768x1000, .f32⟩
  | .hbm, ⟨16, _⟩ => ⟨S_, .f32⟩
  | .hbm, ⟨17, _⟩ => ⟨S32768, .f32⟩
  | .hbm, ⟨18, _⟩ => ⟨S32768x1000, .i32⟩
  | .hbm, ⟨19, _⟩ => ⟨S_, .f32⟩
  | .hbm, ⟨20, _⟩ => ⟨S_, .i32⟩
  | .hbm, ⟨21, _⟩ => ⟨S32768, .f32⟩
  | .hbm, ⟨22, _⟩ => ⟨S32768, .i32⟩
  | .hbm, ⟨23, _⟩ => ⟨S_, .f32⟩
  | .hbm, ⟨24, _⟩ => ⟨S32768, .f32⟩
  | .hbm, ⟨25, _⟩ => ⟨S32768, .f32⟩
  | .hbm, ⟨26, _⟩ => ⟨S32768, .f32⟩
  | .hbm, ⟨27, _⟩ => ⟨S32768, .i32⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S_, .i32⟩
  | .hbm, ⟨37, _⟩ => ⟨S32768, .i32⟩
  | .hbm, ⟨38, _⟩ => ⟨S32768, .i32⟩
  | .hbm, ⟨39, _⟩ => ⟨S_, .i32⟩
  | .hbm, ⟨40, _⟩ => ⟨S32768, .i32⟩
  | .hbm, ⟨41, _⟩ => ⟨S32768, .i1⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S32768, .i32⟩
  | .hbm, ⟨46, _⟩ => ⟨S32768x1, .i32⟩
  | .hbm, ⟨47, _⟩ => ⟨S32768, .f32⟩
  | .hbm, ⟨48, _⟩ => ⟨S_, .f32⟩
  | .hbm, ⟨49, _⟩ => ⟨S32768, .f32⟩
  | .hbm, ⟨50, _⟩ => ⟨S32768, .i1⟩
  | .hbm, ⟨51, _⟩ => ⟨S32768, .f32⟩
  | .hbm, ⟨52, _⟩ => ⟨S_, .f32⟩
  | .hbm, ⟨53, _⟩ => ⟨S32768, .f32⟩
  | .hbm, ⟨54, _⟩ => ⟨S32768, .i1⟩
  | .hbm, ⟨55, _⟩ => ⟨S32768, .f32⟩
  | .hbm, ⟨56, _⟩ => ⟨S32768x1, .i32⟩
  | .hbm, ⟨57, _⟩ => ⟨S1x1000, .i32⟩
  | .hbm, ⟨58, _⟩ => ⟨S32768x1000, .i32⟩
  | .hbm, ⟨59, _⟩ => ⟨S32768x1000, .i32⟩
  | .hbm, ⟨60, _⟩ => ⟨S32768x1000, .i1⟩
  | .hbm, ⟨61, _⟩ => ⟨S32768x1000, .f32⟩
  | .hbm, ⟨62, _⟩ => ⟨S_, .f32⟩
  | .hbm, ⟨63, _⟩ => ⟨S32768x1000, .f32⟩
  | .hbm, ⟨64, _⟩ => ⟨S32768x1000, .f32⟩
  | .hbm, ⟨65, _⟩ => ⟨S32768x1000, .f32⟩
  | .hbm, ⟨66, _⟩ => ⟨S_, .f32⟩
  | .hbm, ⟨67, _⟩ => ⟨S32768, .f32⟩
  | .hbm, ⟨68, _⟩ => ⟨S32768x1, .f32⟩
  | .hbm, ⟨69, _⟩ => ⟨S_, .f32⟩
  | .hbm, ⟨70, _⟩ => ⟨S32768, .f32⟩
  | .hbm, ⟨71, _⟩ => ⟨S32768, .f32⟩
  | .hbm, ⟨72, _⟩ => ⟨S32768x1, .f32⟩
  | .hbm, ⟨73, _⟩ => ⟨S32768x1000, .f32⟩
  | .hbm, ⟨74, _⟩ => ⟨S32768x1000, .f32⟩
  | .hbm, ⟨75, _⟩ => ⟨S32768x1000, .f32⟩
  | .hbm, ⟨76, _⟩ => ⟨S32768x1000, .f32⟩
  | .hbm, ⟨77, _⟩ => ⟨S_, .f32⟩
  | .hbm, ⟨78, _⟩ => ⟨S32768x1000, .f32⟩
  | .hbm, ⟨79, _⟩ => ⟨S32768x1000, .f32⟩
  | .hbm, ⟨80, _⟩ => ⟨S32768x1000, .f32⟩
  | .hbm, ⟨81, _⟩ => ⟨S32768x1, .f32⟩
  | .hbm, ⟨82, _⟩ => ⟨S32768x1000, .f32⟩
  | .hbm, ⟨83, _⟩ => ⟨S32768x1000, .f32⟩
  | .hbm, ⟨84, _⟩ => ⟨S32768x1000, .f32⟩
  | .hbm, ⟨85, _⟩ => ⟨S_, .f32⟩
  | .hbm, ⟨86, _⟩ => ⟨S32768, .f32⟩
  | .hbm, ⟨87, _⟩ => ⟨S32768x1, .f32⟩
  | .hbm, ⟨88, _⟩ => ⟨S32768x1000, .f32⟩
  | .hbm, ⟨89, _⟩ => ⟨S32768x1000, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_c_5 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_c_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_v33 : Ref sig .tc := ⟨.hbm, 61, rfl⟩
abbrev main_cst_10 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_11 : Ref sig .tc := ⟨.hbm, 66, rfl⟩
abbrev main_v37 : Ref sig .tc := ⟨.hbm, 67, rfl⟩
abbrev main_v38 : Ref sig .tc := ⟨.hbm, 68, rfl⟩
abbrev main_cst_12 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_13 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_14 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩

abbrev nD : Nat := 1
abbrev τ : Topo := Topo.v7x

variable {F : FTy → Type} [FloatOps F]
-- ==== Proof.Math.lean ====
/- The mathematics that the claim rests on, free of the programs: the first place at which a row is largest, what the
   folds by maximum and by minimum and the argmax fold give there, and the real arithmetic of the calibrated row. -/
module

public import Idealize.ShloMosaic.Lib.Pointwise
public import Idealize.ShloMosaic.Lib.IdealHost

@[expose] public section

noncomputable section

namespace Cert.Math

open Idealize.ShloMosaic

/-! ## The first largest place -/

/-- `k` is the first place at which `f` is largest. -/
def FirstMax {n : Nat} {α : Type} [LinearOrder α] (f : Fin n → α) (k : Fin n) : Prop :=
  ∀ j, f j ≤ f k ∧ (f j = f k → k ≤ j)

/-- There is one first largest place at most. -/
theorem FirstMax.unique {n : Nat} {α : Type} [LinearOrder α] {f : Fin n → α} {k k' : Fin n} (h : FirstMax f k)
    (h' : FirstMax f k') : k = k' := by
  have e : f k = f k' := le_antisymm (h' k).1 (h k').1
  exact le_antisymm ((h k').2 e.symm) ((h' k).2 e)

/-- A nonempty row has a first largest place. -/
theorem FirstMax.exists {n : Nat} {α : Type} [LinearOrder α] (hn : 0 < n) (f : Fin n → α) : ∃ k, FirstMax f k := by
  obtain ⟨k, -, hk⟩ := Finset.exists_max_image Finset.univ f ⟨⟨0, hn⟩, Finset.mem_univ _⟩
  obtain ⟨k', hm, hk'⟩ := Finset.exists_min_image (Finset.univ.filter fun j => f j = f k) id ⟨k, by simp⟩
  have e : f k' = f k := (Finset.mem_filter.1 hm).2
  exact ⟨k', fun j => ⟨e ▸ hk j (Finset.mem_univ _), fun h => hk' j (Finset.mem_filter.2 ⟨Finset.mem_univ _, h.trans e⟩)⟩⟩

/-- Rows ordered alike have the same first largest place. -/
theorem FirstMax.congr {n : Nat} {α β : Type} [LinearOrder α] [LinearOrder β] {f : Fin n → α} {g : Fin n → β} {k : Fin n}
    (h : FirstMax f k) (hle : ∀ i j, g i ≤ g j ↔ f i ≤ f j) : FirstMax g k := fun j =>
  ⟨(hle _ _).2 (h j).1, fun e => (h j).2 (le_antisymm ((hle _ _).1 e.le) ((hle _ _).1 e.ge))⟩

/-- The fold by maximum from minus infinity is the largest entry. -/
theorem fold_max {n : Nat} {f : Fin n → EReal} {k : Fin n} (h : ∀ j, f j ≤ f k) :
    Finset.univ.fold max ⊥ f = f k :=
  le_antisymm (Finset.fold_max_le _ |>.2 ⟨bot_le, fun j _ => h j⟩)
    (Finset.le_fold_max _ |>.2 (Or.inr ⟨k, Finset.mem_univ _, le_rfl⟩))

/-- The fold by signed minimum is below its start and every entry, and is one of them. -/
theorem fold_minsi_spec {ι : Type} [DecidableEq ι] (f : ι → BitVec 32) (b : BitVec 32) (s : Finset ι) :
    (s.fold IntOp.minsi b f).toInt ≤ b.toInt ∧ (∀ k ∈ s, (s.fold IntOp.minsi b f).toInt ≤ (f k).toInt)
      ∧ (s.fold IntOp.minsi b f = b ∨ ∃ k ∈ s, s.fold IntOp.minsi b f = f k) := by
  induction s using Finset.induction_on with
  | empty => simp
  | insert a s ha ih =>
    rw [Finset.fold_insert ha]
    obtain ⟨h1, h2, h3⟩ := ih
    generalize s.fold IntOp.minsi b f = w at h1 h2 h3 ⊢
    unfold IntOp.minsi
    by_cases hc : (f a).slt w = true
    · rw [if_pos hc]
      rw [BitVec.slt_iff_toInt_lt] at hc
      refine ⟨by omega, fun k hk => ?_, Or.inr ⟨a, Finset.mem_insert_self _ _, rfl⟩⟩
      rcases Finset.mem_insert.1 hk with rfl | hk
      · exact le_rfl
      · have := h2 k hk; omega
    · rw [if_neg hc]
      rw [BitVec.slt_iff_toInt_lt] at hc
      refine ⟨h1, fun k hk => ?_, h3.imp id fun ⟨k, hk, e⟩ => ⟨k, Finset.mem_insert_of_mem hk, e⟩⟩
      rcases Finset.mem_insert.1 hk with rfl | hk
      · omega
      · exact h2 k hk

/-- The fold by signed minimum over the places where a row of up to a thousand entries is one (a thousand elsewhere) is
    the first such place. -/
theorem fold_min_place (p : Fin 1000 → Prop) [DecidablePred p] (k : Fin 1000) (hk : p k) (hmin : ∀ j, p j → k ≤ j) :
    (Finset.univ : Finset (Fin 1000)).fold IntOp.minsi 2147483647#32 (fun j => if p j then BitVec.ofNat 32 j.val else 1000#32)
      = BitVec.ofNat 32 k.val := by
  obtain ⟨-, h2, h3⟩ := fold_minsi_spec (fun j : Fin 1000 => if p j then BitVec.ofNat 32 j.val else 1000#32) 2147483647#32 Finset.univ
  have e : ∀ n : Nat, n ≤ 1000 → (BitVec.ofNat 32 n).toInt = n := fun n hn => by
    rw [BitVec.toInt_eq_toNat_of_lt] <;> simp only [BitVec.toNat_ofNat] <;> omega
  generalize (Finset.univ : Finset (Fin 1000)).fold IntOp.minsi 2147483647#32 (fun j => if p j then BitVec.ofNat 32 j.val else 1000#32) = w at h2 h3 ⊢
  have hle := h2 k (Finset.mem_univ _)
  rw [if_pos hk, e _ k.isLt.le] at hle
  have hkl := k.isLt
  rcases h3 with rfl | ⟨j, -, rfl⟩
  · rw [show (2147483647#32 : BitVec 32).toInt = 2147483647 from rfl] at hle
    omega
  · by_cases hj : p j
    · rw [if_pos hj] at hle ⊢
      rw [e _ j.isLt.le] at hle
      have := hmin j hj
      have : j = k := Fin.ext (by omega)
      rw [this]
    · rw [if_neg hj, e 1000 le_rfl] at hle
      omega

/-- The comparison a printed argmax folds by, at the extended reals. -/
theorem argmax_fold {f : EReal × BitVec 32 → EReal × BitVec 32 → EReal × BitVec 32}
    (hf : ∀ a b, f a b = (if b.1 < a.1 then a.1 else b.1, if b.1 < a.1 ∨ (a.1 = b.1 ∧ a.2.toInt < b.2.toInt) then a.2 else b.2))
    (b : EReal × BitVec 32) (L : List (EReal × BitVec 32)) :
    (L.foldl f b = b ∨ L.foldl f b ∈ L) ∧ b.1 ≤ (L.foldl f b).1
      ∧ ∀ p ∈ L, p.1 ≤ (L.foldl f b).1 ∧ (p.1 = (L.foldl f b).1 → (L.foldl f b).2.toInt ≤ p.2.toInt) := by
  induction L using List.reverseRecOn with
  | nil => simp
  | append_singleton L q ih =>
    rw [List.foldl_append, List.foldl_cons, List.foldl_nil]
    obtain ⟨h1, h2, h3⟩ := ih
    generalize L.foldl f b = r at h1 h2 h3 ⊢
    obtain ⟨r1, r2⟩ := r
    obtain ⟨q1, q2⟩ := q
    rw [hf]
    dsimp only at *
    rcases lt_trichotomy q1 r1 with hlt | heq | hgt
    · rw [if_pos hlt, if_pos (Or.inl hlt)]
      refine ⟨h1.imp id fun h => List.mem_append_left _ h, h2, fun p hp => ?_⟩
      rcases List.mem_append.1 hp with hp | hp
      · exact h3 p hp
      · obtain rfl := List.mem_singleton.1 hp
        exact ⟨hlt.le, fun e => absurd e hlt.ne⟩
    · subst heq
      rw [if_neg (lt_irrefl _)]
      by_cases hs : r2.toInt < q2.toInt
      · rw [if_pos (Or.inr ⟨rfl, hs⟩)]
        refine ⟨h1.imp id fun h => List.mem_append_left _ h, h2, fun p hp => ?_⟩
        rcases List.mem_append.1 hp with hp | hp
        · exact h3 p hp
        · obtain rfl := List.mem_singleton.1 hp
          exact ⟨le_rfl, fun _ => hs.le⟩
      · rw [if_neg (by rintro (h | h); exacts [lt_irrefl _ h, hs h.2])]
        refine ⟨Or.inr (List.mem_append_right _ (List.mem_singleton.2 rfl)), h2, fun p hp => ?_⟩
        rcases List.mem_append.1 hp with hp | hp
        · exact ⟨(h3 p hp).1, fun e => (not_lt.1 hs).trans ((h3 p hp).2 e)⟩
        · obtain rfl := List.mem_singleton.1 hp
          exact ⟨le_rfl, fun _ => le_rfl⟩
    · rw [if_neg hgt.not_gt, if_neg (by rintro (h | h); exacts [hgt.not_gt h, hgt.ne h.1])]
      refine ⟨Or.inr (List.mem_append_right _ (List.mem_singleton.2 rfl)), h2.trans hgt.le, fun p hp => ?_⟩
      rcases List.mem_append.1 hp with hp | hp
      · exact ⟨(h3 p hp).1.trans hgt.le, fun e => absurd (h3 p hp).1 (not_le.2 (e ▸ hgt))⟩
      · obtain rfl := List.mem_singleton.1 hp
        exact ⟨le_rfl, fun _ => le_rfl⟩

/-! ## Words and constants -/

/-- A word clipped to the fifteen bins is the number of a bin. -/
theorem clip_bin (w : BitVec 32) : ∃ b : Fin 15, IntOp.minsi 14#32 (IntOp.maxsi 0#32 w) = BitVec.ofNat 32 b.val := by
  unfold IntOp.minsi IntOp.maxsi
  by_cases h : w.slt 0#32 = true
  · rw [if_pos h]
    exact ⟨0, by decide⟩
  · rw [if_neg h]
    by_cases h' : (14#32).slt w = true
    · rw [if_pos h']; exact ⟨14, rfl⟩
    · rw [if_neg h']
      rw [BitVec.slt_iff_toInt_lt] at h h'
      have h14 : (14#32 : BitVec 32).toInt = 14 := rfl
      have h0 : (0#32 : BitVec 32).toInt = 0 := rfl
      rw [h0] at h; rw [h14] at h'
      refine ⟨⟨w.toInt.toNat, by omega⟩, BitVec.eq_of_toInt_eq ?_⟩
      rw [BitVec.toInt_eq_toNat_of_lt (x := BitVec.ofNat 32 _)] <;> simp only [BitVec.toNat_ofNat] <;> omega

/-- The f32 pattern of minus infinity. -/
theorem ofBits_bot : Ideal.ofBits .f32 0xFF800000#32 = ⊥ := by
  simp [Ideal.ofBits, Ideal.ieee]

/-- The f32 pattern of plus infinity. -/
theorem ofBits_top : Ideal.ofBits .f32 0x7F800000#32 = ⊤ := by
  simp [Ideal.ofBits, Ideal.ieee]

/-- The word of the bin a confidence falls in: one less than the ceiling of fifteen times it, clipped to the bins. -/
def binWord (c : EReal) : BitVec 32 :=
  IntOp.minsi 14#32 (IntOp.maxsi 0#32 (IntOp.subi (FloatOps.fptosi (F := Ideal) (φ := .f32) 32
    (Ideal.liftRound Int.ceil (c * Ideal.ofBits .f32 0x41700000#32))) 1#32))

/-- The flag of a bin that was filled: one where its entry is not minus one. -/
def flag (h : EReal) : EReal :=
  FloatOps.uitofp (F := Ideal) .f32 (BitVec.ofBool (decide (h ≠ Ideal.ofBits .f32 0xBF800000#32)))

open Classical in
/-- The estimate: the bin's entry, the confidence where the bin was not filled. -/
def estOf (c h : ℝ) : ℝ := if (h : EReal) = Ideal.ofBits .f32 0xBF800000#32 then c else h

/-- The estimate chosen among extended reals. -/
theorem estOf_eq (c h : ℝ) [Decidable ((h : EReal) = Ideal.ofBits .f32 0xBF800000#32)] :
    (if (h : EReal) = Ideal.ofBits .f32 0xBF800000#32 then (c : EReal) else (h : EReal)) = ((estOf c h : ℝ) : EReal) := by
  unfold estOf
  by_cases e : (h : EReal) = Ideal.ofBits .f32 0xBF800000#32
  · rw [if_pos e, if_pos e]
  · rw [if_neg e, if_neg e]

/-- The bin of a confidence. -/
theorem binWord_bin (c : EReal) : ∃ b : Fin 15, binWord c = BitVec.ofNat 32 b.val := clip_bin _

/-! ## The calibrated row -/

/-- The exponential of an entry less the entry at `k`. -/
def ex (l : Fin 1000 → ℝ) (k j : Fin 1000) : ℝ := Real.exp (l j - l k)

/-- The sum of the row's exponentials. -/
def tot (l : Fin 1000 → ℝ) (k : Fin 1000) : ℝ := ∑ j, ex l k j

/-- The exponential at `k` itself is one. -/
theorem ex_self (l : Fin 1000 → ℝ) (k : Fin 1000) : ex l k k = 1 := by simp [ex]
/-- The exponentials are positive. -/
theorem ex_pos (l : Fin 1000 → ℝ) (k j : Fin 1000) : 0 < ex l k j := Real.exp_pos _
/-- The exponentials are ordered as the entries are. -/
theorem ex_le_iff (l : Fin 1000 → ℝ) (k i j : Fin 1000) : ex l k i ≤ ex l k j ↔ l i ≤ l j := by
  simp [ex]
/-- The exponential is one exactly where the entry equals that at `k`. -/
theorem ex_eq_one_iff (l : Fin 1000 → ℝ) (k j : Fin 1000) : ex l k j = 1 ↔ l j = l k := by
  simp [ex, Real.exp_eq_one_iff, sub_eq_zero]

/-- The sum exceeds one: the entry at `k` gives one, and there are others. -/
theorem one_lt_tot (l : Fin 1000 → ℝ) (k : Fin 1000) : 1 < tot l k := by
  obtain ⟨j, hj⟩ : ∃ j : Fin 1000, j ≠ k := exists_ne k
  rw [← ex_self l k]
  exact Finset.single_lt_sum hj (Finset.mem_univ _) (Finset.mem_univ _) (ex_pos l k j) fun i _ _ => (ex_pos l k i).le

/-- The calibrated row: the estimate at `k`, the other exponentials scaled to share the rest. -/
def mix (l : Fin 1000 → ℝ) (k : Fin 1000) (E : ℝ) (j : Fin 1000) : ℝ :=
  if j = k then E else ex l k j * ((1 - E) / (tot l k - 1))

/-- The calibrated row adds up to one. -/
theorem sum_mix (l : Fin 1000 → ℝ) (k : Fin 1000) (E : ℝ) : ∑ j, mix l k E j = 1 := by
  have h : tot l k - 1 ≠ 0 := by have := one_lt_tot l k; linarith
  have e : ∀ j, mix l k E j = ex l k j * ((1 - E) / (tot l k - 1)) + (if j = k then E - (1 - E) / (tot l k - 1) else 0) := by
    intro j
    unfold mix
    by_cases hj : j = k
    · subst hj; rw [if_pos rfl, if_pos rfl, ex_self]; ring
    · rw [if_neg hj, if_neg hj, add_zero]
  simp only [e, Finset.sum_add_distrib, ← Finset.sum_mul, Finset.sum_ite_eq', Finset.mem_univ, if_true]
  rw [show ∑ j, ex l k j = tot l k from rfl]
  field_simp
  ring

/-- One at `k`, zero elsewhere. -/
def hot (k j : Fin 1000) : ℝ := if j = k then 1 else 0

/-- What is left of a normalized row off its largest entry. -/
theorem sum_masked (l : Fin 1000 → ℝ) (k : Fin 1000) :
    ∑ j, ex l k j / tot l k * (1 - hot k j) = (tot l k - 1) / tot l k := by
  have e : ∀ j, ex l k j / tot l k * (1 - hot k j) = ex l k j / tot l k + (if j = k then - (1 / tot l k) else 0) := by
    intro j
    unfold hot
    by_cases hj : j = k
    · subst hj; rw [if_pos rfl, if_pos rfl, ex_self]; ring
    · rw [if_neg hj, if_neg hj]; ring
  simp only [e, Finset.sum_add_distrib, ← Finset.sum_div, Finset.sum_ite_eq', Finset.mem_univ, if_true]
  rw [show ∑ j, ex l k j = tot l k from rfl]
  ring

/-- Division at the extended reals of real numbers, the divisor not zero. -/
theorem div_real (a : ℝ) {b : ℝ} (h : b ≠ 0) : Ideal.div (a : EReal) (b : EReal) = ((a / b : ℝ) : EReal) := by
  rw [Ideal.div_coe h, ← EReal.coe_mul]; congr 1; ring

/-- A sum of real numbers in the extended reals. -/
theorem sum_real {n : Nat} (f : Fin n → ℝ) : ∑ j, ((f j : ℝ) : EReal) = ((∑ j, f j : ℝ) : EReal) := by
  induction n with
  | zero => simp
  | succ n ih => rw [Fin.sum_univ_succ, Fin.sum_univ_succ, ih, EReal.coe_add]

/-- The masked, rescaled and refilled row of normalized exponentials is the calibrated row. -/
theorem mix_entry (l : Fin 1000 → ℝ) (k : Fin 1000) (E : ℝ) (j : Fin 1000) :
    Ideal.div (((1 : EReal) - (E : EReal)) * (((ex l k j / tot l k : ℝ) : EReal) * ((1 : EReal) - ((hot k j : ℝ) : EReal))))
        (∑ i, ((ex l k i / tot l k : ℝ) : EReal) * ((1 : EReal) - ((hot k i : ℝ) : EReal))) * ((1 : EReal) - ((hot k j : ℝ) : EReal))
      + (E : EReal) * ((hot k j : ℝ) : EReal) = ((mix l k E j : ℝ) : EReal) := by
  have hS := one_lt_tot l k
  have h1 : tot l k ≠ 0 := by linarith
  have h2 : tot l k - 1 ≠ 0 := by linarith
  simp only [← EReal.coe_one, ← EReal.coe_sub, ← EReal.coe_mul, sum_real, sum_masked]
  rw [div_real _ (div_ne_zero h2 h1)]
  simp only [← EReal.coe_mul, ← EReal.coe_add]
  congr 1
  unfold mix hot
  by_cases hj : j = k
  · subst hj; rw [if_pos rfl, if_pos rfl]; ring
  · rw [if_neg hj, if_neg hj]; field_simp; ring

/-! ## The three results -/

/-- Logits and a histogram of real numbers, with each row's first largest place and the bin of its confidence. -/
structure Rows (x : (⟨2, ![32768, 1000]⟩ : Shape).Idx → EReal) (hist : (⟨1, ![15]⟩ : Shape).Idx → EReal) where
  /-- The logits. -/
  l : Fin 32768 → Fin 1000 → ℝ
  /-- The histogram's entries. -/
  g : Fin 15 → ℝ
  /-- Each row's first largest place. -/
  k : Fin 32768 → Fin 1000
  /-- Each row's bin. -/
  b : Fin 32768 → Fin 15
  hx : ∀ i j, x (ix2 i j) = ((l i j : ℝ) : EReal)
  hg : ∀ j, hist (ix1 j) = ((g j : ℝ) : EReal)
  hk : ∀ i, FirstMax (l i) (k i)
  hb : ∀ i, binWord ((1 / tot (l i) (k i) : ℝ) : EReal) = BitVec.ofNat 32 (b i).val

/-- Arrays of real numbers have such rows. -/
theorem Rows.exists {x : (⟨2, ![32768, 1000]⟩ : Shape).Idx → EReal} {hist : (⟨1, ![15]⟩ : Shape).Idx → EReal}
    (hx : ∀ p, ∃ r : ℝ, x p = (r : EReal)) (hg : ∀ p, ∃ r : ℝ, hist p = (r : EReal)) : Nonempty (Rows x hist) := by
  choose l hl using fun (i : Fin 32768) (j : Fin 1000) => hx (ix2 i j)
  choose g hg using fun j : Fin 15 => hg (ix1 j)
  choose k hk using fun i => FirstMax.exists (by norm_num) (l i)
  choose b hb using fun i => binWord_bin ((1 / tot (l i) (k i) : ℝ) : EReal)
  exact ⟨⟨l, g, k, b, hl, hg, hk, hb⟩⟩

section
variable {x : (⟨2, ![32768, 1000]⟩ : Shape).Idx → EReal} {hist : (⟨1, ![15]⟩ : Shape).Idx → EReal} (R : Rows x hist)

/-- The calibrated entry of row `i` at class `j`. -/
def Rows.entry (i : Fin 32768) (j : Fin 1000) : EReal :=
  ((mix (R.l i) (R.k i) (estOf (1 / tot (R.l i) (R.k i)) (R.g (R.b i))) j : ℝ) : EReal)

/-- The calibrated probabilities. -/
def Rows.out : (⟨2, ![32768, 1000]⟩ : Shape).Idx → EReal := fun p => R.entry (p 0) (p 1)

/-- The flags of the rows whose bin was filled. -/
def Rows.flags : (⟨1, ![32768]⟩ : Shape).Idx → EReal := fun p => flag ((R.g (R.b (p 0)) : ℝ) : EReal)

/-- The predicted classes. -/
def Rows.places : (⟨1, ![32768]⟩ : Shape).Idx → BitVec 32 := fun p => BitVec.ofNat 32 (R.k (p 0)).val

end

end Cert.Math
-- ==== Proof.KSteps.lean ====
/- The kernel body's steps read at an index. -/
module

public import proofs.«01_k».proof.Proof.Gen.KernelIdeal.Skeleton
public import proofs.«01_k».proof.Proof.Math

@[expose] public section

noncomputable section

namespace Cert.KValue

open Cert.KernelIdeal Cert.KernelIdeal.Gen Cert.Math Idealize.ShloMosaic Idealize.ShloMosaic.TcCoe Idealize.SL.Sem

section Steps
variable (x : Vec Ideal S1000x2048 .f32) (r : Fin 1000) (y : Fin 2048)

/-- The exponentials at an index: of the entry less its column's largest. -/
theorem pay4_apply : k0_pay4 (F := Ideal) x (ix2 r y)
    = Ideal.exp (x (ix2 r y) - Finset.univ.fold max (Ideal.ofBits .f32 0xFF800000#32) (fun k : Fin 1000 => x (ix2 k y))) := by
  pointwise [k0_pay4]

/-- A column's sum is the sum of its exponentials. -/
theorem pay5_apply : k0_pay5 (F := Ideal) x (ix2 0 y) = ∑ k : Fin 1000, k0_pay4 (F := Ideal) x (ix2 k y) := by
  pointwise [k0_pay5]

/-- The confidence of a column is one divided by its sum. -/
theorem pay6_apply : k0_pay6 (F := Ideal) x (ix2 0 y) = Ideal.div 1 (k0_pay5 (F := Ideal) x (ix2 0 y)) := by
  pointwise [k0_pay6]

/-- The place of a column: the least of the places where its exponential is one. -/
theorem pay7_apply : k0_pay7 (F := Ideal) x (ix2 0 y) = (Finset.univ : Finset (Fin 1000)).fold IntOp.minsi 2147483647#32
    (fun k => if k0_pay4 (F := Ideal) x (ix2 k y) = 1 then BitVec.ofNat 32 k.val else 1000#32) := by
  pointwise [k0_pay7]

/-- The bin of a column, a word computed from its confidence. -/
theorem pay8_apply : k0_pay8 (F := Ideal) x (ix2 0 y) = binWord (k0_pay6 (F := Ideal) x (ix2 0 y)) := by
  unfold binWord
  pointwise [k0_pay8]

/-- The histogram's entry selected for a column whose bin is `b`. -/
theorem look_apply (h : Fin 15 → EReal) (b : Fin 15) (w : IVec S1x2048 32) (hb : w (ix2 0 y) = BitVec.ofNat 32 b.val)
    (v39 : FVec Ideal S1x2048 .f32)
    (h39 : v39 (ix2 0 y) = Scalar.select (IntOp.cmpi .eq (w (ix2 0 y)) 2#32) (h 2) (Scalar.select (IntOp.cmpi .eq (w (ix2 0 y)) 1#32) (h 1) (h 0))) :
    k0_pay1 (F := Ideal) w (k0_pay11 w v39 k0_pay10 (h 3) (h 4) (h 5) (h 6) (h 7) (h 8) (h 9) (h 10)) (k0_pay12 w) (k0_pay13 (h 11))
      (h 12) (h 13) (h 14) (ix2 0 y) = h b := by
  pointwise [k0_pay1, k0_pay11, k0_pay10, k0_pay12, k0_pay13]
  rw [h39, hb]
  clear hb h39
  fin_cases b <;> rfl

/-- The first two selections among the histogram's entries. -/
theorem pay9_apply (a b c : EReal) : k0_pay9 (F := Ideal) x a b c (ix2 0 y)
    = Scalar.select (IntOp.cmpi .eq (k0_pay8 (F := Ideal) x (ix2 0 y)) 2#32) c
        (Scalar.select (IntOp.cmpi .eq (k0_pay8 (F := Ideal) x (ix2 0 y)) 1#32) b a) := by
  pointwise [k0_pay9]

/-- The flag of a column, of the entry selected for it. -/
theorem pay2_apply (v27 : IVec S1x2048 32) (v79 : FVec Ideal S1x2048 .f32) (v81 : IVec S1x2048 1) (v83 : FVec Ideal S1x2048 .f32)
    (v87 v92 v97 : EReal) : k0_pay2 (F := Ideal) v27 v79 v81 v83 v87 v92 v97 (ix2 0 y)
      = FloatOps.sitofp (F := Ideal) .f32 (BitVec.setWidth 32 (BitVec.ofBool (decide
          (k0_pay1 (F := Ideal) v27 v79 v81 v83 v87 v92 v97 (ix2 0 y) ≠ Ideal.ofBits .f32 0xBF800000#32)))) := by
  pointwise [k0_pay2]

/-- The calibrated entry at an index: the estimate at the column's place, the scaled exponential elsewhere. -/
theorem pay3_apply (v6 : FVec Ideal S1000x2048 .f32) (v8 v10 : FVec Ideal S1x2048 .f32) (v11 : IVec S1000x2048 32) (v17 v27 : IVec S1x2048 32)
    (v79 : FVec Ideal S1x2048 .f32) (v81 : IVec S1x2048 1) (v83 : FVec Ideal S1x2048 .f32) (v87 v92 v97 : EReal) (E : EReal)
    (hE : (if k0_pay1 (F := Ideal) v27 v79 v81 v83 v87 v92 v97 (ix2 0 y) = Ideal.ofBits .f32 0xBF800000#32 then v10 (ix2 0 y)
      else k0_pay1 (F := Ideal) v27 v79 v81 v83 v87 v92 v97 (ix2 0 y)) = E) :
    k0_pay3 (F := Ideal) v6 v8 v10 v11 v17 v27 v79 v81 v83 v87 v92 v97 (ix2 r y)
      = Scalar.select (IntOp.cmpi .eq (v11 (ix2 r y)) (v17 (ix2 0 y))) E (v6 (ix2 r y) * Ideal.div (1 - E) (v8 (ix2 0 y) - 1)) := by
  subst hE
  pointwise [k0_pay3]

/-- The row numbers of a block. -/
theorem iota_apply : iota .tc S1000x2048 32 [0] iota_S1000x2048_d0_w32 (ix2 r y) = BitVec.ofNat 32 r.val := by
  pointwise []

end Steps

end Cert.KValue
-- ==== Proof.KColumn.lean ====
/- The kernel body's results a column at a time, the column's logits and the histogram's entries being real numbers. -/
module

public import proofs.«01_k».proof.Proof.KSteps

@[expose] public section

noncomputable section

namespace Cert.KValue

open Cert.KernelIdeal Cert.KernelIdeal.Gen Cert.Math Idealize.ShloMosaic Idealize.ShloMosaic.TcCoe Idealize.SL.Sem

section Column
variable {x : Vec Ideal S1000x2048 .f32} {y : Fin 2048} {l : Fin 1000 → ℝ} {k : Fin 1000}

/-- The column's exponentials. -/
theorem exp_col (hx : ∀ j : Fin 1000, x (ix2 j y) = ((l j : ℝ) : EReal)) (hk : FirstMax l k) (j : Fin 1000) :
    k0_pay4 (F := Ideal) x (ix2 j y) = ((ex l k j : ℝ) : EReal) := by
  rw [pay4_apply, ofBits_bot, fold_max (k := k) fun j => by rw [hx, hx]; exact EReal.coe_le_coe_iff.2 (hk j).1, hx, hx,
    ← EReal.coe_sub]
  rfl

/-- The sum of the column's exponentials. -/
theorem sum_col (hx : ∀ j : Fin 1000, x (ix2 j y) = ((l j : ℝ) : EReal)) (hk : FirstMax l k) :
    k0_pay5 (F := Ideal) x (ix2 0 y) = ((tot l k : ℝ) : EReal) := by
  rw [pay5_apply]
  simp only [exp_col hx hk]
  exact sum_real _

/-- The confidence: one over the sum. -/
theorem conf_col (hx : ∀ j : Fin 1000, x (ix2 j y) = ((l j : ℝ) : EReal)) (hk : FirstMax l k) :
    k0_pay6 (F := Ideal) x (ix2 0 y) = ((1 / tot l k : ℝ) : EReal) := by
  rw [pay6_apply, sum_col hx hk, ← EReal.coe_one]
  exact div_real _ (by have := one_lt_tot l k; linarith)

/-- The third result: the first largest place. -/
theorem place_col (hx : ∀ j : Fin 1000, x (ix2 j y) = ((l j : ℝ) : EReal)) (hk : FirstMax l k) :
    k0_pay7 (F := Ideal) x (ix2 0 y) = BitVec.ofNat 32 k.val := by
  have e : ∀ j, (k0_pay4 (F := Ideal) x (ix2 j y) = 1) = (l j = l k) := fun j => by
    rw [exp_col hx hk, ← EReal.coe_one, EReal.coe_eq_coe_iff, ex_eq_one_iff]
  rw [pay7_apply]
  classical
  refine (fold_min_place (fun j => k0_pay4 (F := Ideal) x (ix2 j y) = 1) k ?_ fun j hj => (hk j).2 ?_)
  · rw [e]
  · rwa [e] at hj

/-- The bin of the column. -/
theorem bin_col (hx : ∀ j : Fin 1000, x (ix2 j y) = ((l j : ℝ) : EReal)) (hk : FirstMax l k) :
    k0_pay8 (F := Ideal) x (ix2 0 y) = binWord ((1 / tot l k : ℝ) : EReal) := by
  rw [pay8_apply, conf_col hx hk]

/-- The histogram's entry of the column's bin. -/
theorem look_col (hx : ∀ j : Fin 1000, x (ix2 j y) = ((l j : ℝ) : EReal)) (hk : FirstMax l k) (h : Fin 15 → EReal) (b : Fin 15)
    (hb : binWord ((1 / tot l k : ℝ) : EReal) = BitVec.ofNat 32 b.val) :
    k0_pay1 (F := Ideal) (k0_pay8 x) (k0_pay11 (k0_pay8 x) (k0_pay9 x (h 0) (h 1) (h 2)) k0_pay10 (h 3) (h 4) (h 5) (h 6) (h 7) (h 8) (h 9) (h 10))
      (k0_pay12 (k0_pay8 x)) (k0_pay13 (h 11)) (h 12) (h 13) (h 14) (ix2 0 y) = h b :=
  look_apply y h b _ ((bin_col hx hk).trans hb) _ (pay9_apply x y (h 0) (h 1) (h 2))

/-- The second result: the flag of the column's bin. -/
theorem flag_col (hx : ∀ j : Fin 1000, x (ix2 j y) = ((l j : ℝ) : EReal)) (hk : FirstMax l k) (h : Fin 15 → EReal) (b : Fin 15)
    (hb : binWord ((1 / tot l k : ℝ) : EReal) = BitVec.ofNat 32 b.val) :
    k0_pay2 (F := Ideal) (k0_pay8 x) (k0_pay11 (k0_pay8 x) (k0_pay9 x (h 0) (h 1) (h 2)) k0_pay10 (h 3) (h 4) (h 5) (h 6) (h 7) (h 8) (h 9) (h 10))
      (k0_pay12 (k0_pay8 x)) (k0_pay13 (h 11)) (h 12) (h 13) (h 14) (ix2 0 y) = flag (h b) := by
  rw [pay2_apply, look_col hx hk h b hb]
  unfold flag
  generalize decide (h b ≠ Ideal.ofBits .f32 0xBF800000#32) = d
  show ((((BitVec.setWidth 32 (BitVec.ofBool d)).toInt : ℝ) : EReal)) = (((BitVec.ofBool d).toNat : ℝ) : EReal)
  cases d <;> simp

/-- The first result: the calibrated column. -/
theorem out_col (hx : ∀ j : Fin 1000, x (ix2 j y) = ((l j : ℝ) : EReal)) (hk : FirstMax l k) (h : Fin 15 → EReal) (b : Fin 15)
    (hb : binWord ((1 / tot l k : ℝ) : EReal) = BitVec.ofNat 32 b.val) (g : ℝ) (hg : h b = ((g : ℝ) : EReal)) (r : Fin 1000) :
    k0_pay3 (F := Ideal) (k0_pay4 x) (k0_pay5 x) (k0_pay6 x) (iota .tc S1000x2048 32 [0] iota_S1000x2048_d0_w32) (k0_pay7 x) (k0_pay8 x)
      (k0_pay11 (k0_pay8 x) (k0_pay9 x (h 0) (h 1) (h 2)) k0_pay10 (h 3) (h 4) (h 5) (h 6) (h 7) (h 8) (h 9) (h 10))
      (k0_pay12 (k0_pay8 x)) (k0_pay13 (h 11)) (h 12) (h 13) (h 14) (ix2 r y)
      = ((mix l k (estOf (1 / tot l k) g) r : ℝ) : EReal) := by
  have hE := estOf_eq (1 / tot l k) g
  rw [← hg, ← conf_col hx hk, ← look_col hx hk h b hb] at hE
  rw [pay3_apply r y _ _ _ _ _ _ _ _ _ _ _ _ _ hE, iota_apply, place_col hx hk, exp_col hx hk, sum_col hx hk]
  have hS := one_lt_tot l k
  rw [← EReal.coe_one, ← EReal.coe_sub, ← EReal.coe_sub, div_real _ (by linarith), ← EReal.coe_mul]
  unfold mix
  by_cases e : r = k
  · subst e
    rw [if_pos rfl]
    simp [IntOp.cmpi, Scalar.select]
  · have e' : (BitVec.ofNat 32 r.val == BitVec.ofNat 32 k.val) = false := beq_eq_false_iff_ne.2 fun q => e (Fin.ext (by
      have := congrArg BitVec.toNat q
      simp only [BitVec.toNat_ofNat] at this
      have := k.isLt
      have := r.isLt
      omega))
    rw [if_neg e]
    simp [IntOp.cmpi, Scalar.select, e']

end Column

end Cert.KValue
-- ==== Proof.KValue.lean ====
/- The kernel program's three results, the logits and the histogram's entries being real numbers. -/
module

public import proofs.«01_k».proof.Proof.Gen.KernelIdeal.Frame
public import proofs.«01_k».proof.Proof.KColumn
public import Idealize.ShloMosaic.Lib.Pipeline.ValueKit
public import Idealize.ShloMosaic.Lib.Claim

@[expose] public section

noncomputable section

namespace Cert.KValue

open Cert.KernelIdeal Cert.KernelIdeal.Gen Cert.Math Idealize.ShloMosaic Idealize.ShloMosaic.TcCoe Idealize.SL.Sem
open Idealize.ShloMosaic.Pipeline (Dat)

section Arrays
variable {F : FTy → Type} [FloatOps F]
variable (m : (ℓ : Loc nD τ sig) → Buf (Elt F) ℓ) (ρ : Dev nD → PrngReg)

/-- A column of a block is a column of the array. -/
theorem lt_point (t : Fin cfg0.N) (y : Fin 2048) : 2048 * t.val + y.val < 32768 := by
  have h : t.val < 16 := t.isLt
  have := y.isLt
  omega

/-- The column of the array that column `y` of block `t` is. -/
def col (t : Fin cfg0.N) (y : Fin 2048) : Fin 32768 := ⟨2048 * t.val + y.val, lt_point t y⟩

/-- The windows' blocks: the columns' windows at block `t` of the columns, the histogram's whole. -/
theorem idx : ∀ t : Fin cfg0.N, win0_0.index t = ![0, t.val] ∧ win0_1.index t = ![0] ∧ win0_2.index t = ![0, t.val]
    ∧ win0_3.index t = ![0, t.val] ∧ win0_4.index t = ![0, t.val] :=
  (by decide +kernel : ∀ t : Fin grid0.N, _)

/-- The kernel's first operand is the transposed argument. -/
theorem V_v0 (c : Dev nD) : V m c main_v0 = transpose S1000x32768 [1, 0] (m ((c : Thread nD τ).loc main_arg0)) transposes_S32768x1000_S1000x32768_1_0 := by
  show StableHlo.after hostOps0 _ (Proc.devRef .tc main_v0) = _
  after_results

/-- The kernel's second operand is the histogram. -/
theorem V_arg1 (c : Dev nD) : V m c main_arg1 = m ((c : Thread nD τ).loc main_arg1) := by
  show StableHlo.after hostOps0 _ (Proc.devRef .tc main_arg1) = _
  after_results

/-- The transposed argument at an index. -/
theorem transpose_apply (x : (⟨S32768x1000, .f32⟩ : BufTy).Contents (Elt F)) (j : Fin 1000) (i : Fin 32768) :
   (transpose S1000x32768 [1, 0] x transposes_S32768x1000_S1000x32768_1_0 : (⟨S1000x32768, .f32⟩ : BufTy).Contents (Elt F)) (ix2 j i) = x (ix2 i j) := by
  pointwise []

/-- A block of the first window at an index. -/
theorem blk0 (c : Dev nD) (t : Fin cfg0.N) (j : Fin 1000) (y : Fin 2048) :
    iblk m c 0 t (ix2 j y) = m ((c : Thread nD τ).loc main_arg0) (ix2 (col t y) j) := by
  have e : iblk m c 0 t (ix2 j y) = V m c main_v0 (ix2 j (col t y)) := by
    unfold col
    blk_ext [iblk, idx t]
  rw [e, V_v0]
  exact transpose_apply _ _ _

/-- The second window's block is the histogram. -/
theorem blk1 (c : Dev nD) (t : Fin cfg0.N) : iblk m c 1 t = m ((c : Thread nD τ).loc main_arg1) := by
  rw [← V_arg1 m c]
  blk_ext! [iblk, idx t]

/-- A word loaded from the histogram. -/
theorem word (x : Vec F S15 .f32) (b : Nat) (hb : b < 15) (inb : ∀ a, ![b] a + S1.size a ≤ S15.size a) (h) :
    View.ld x (Rect.unit (s := S15) ![b] S1.size inb) (Shape.Idx.first h) = x (ix1 (⟨b, hb⟩ : Fin 15)) := by
  refine congrArg x (funext fun a => ?_)
  match a with
  | ⟨0, _⟩ =>
    refine Fin.ext ?_
    simp

/-- An index of a block of the third result's window in its array. -/
theorem emb4 (t : Fin cfg0.N) (y : Fin 2048) : ((View.whole main_v1_2).slice (win0_4.rect t)).emb (ix2 0 y) = ix2 0 (col t y) := by
  unfold col
  blk_ext [idx t]

/-- An index of a block of the second result's window in its array. -/
theorem emb3 (t : Fin cfg0.N) (y : Fin 2048) : ((View.whole main_v1_1).slice (win0_3.rect t)).emb (ix2 0 y) = ix2 0 (col t y) := by
  unfold col
  blk_ext [idx t]

/-- An index of a block of the first result's window in its array. -/
theorem emb2 (t : Fin cfg0.N) (r : Fin 1000) (y : Fin 2048) : ((View.whole main_v1_0).slice (win0_2.rect t)).emb (ix2 r y) = ix2 r (col t y) := by
  unfold col
  blk_ext [idx t]

end Arrays

/-! ## The three arrays the kernel leaves -/

section Real
variable (m : (ℓ : Loc nD τ sig) → Buf (Elt Ideal) ℓ) (ρ : Dev nD → PrngReg)

/-- The third array: the predicted classes. -/
theorem arr4 (c : Dev nD) (R : Rows (m ((c : Thread nD τ).loc main_arg0)) (m ((c : Thread nD τ).loc main_arg1))) :
    (dats m 0 c).arrAt 4 cfg0.N = fun p : S1x32768.Idx => R.places (ix1 (p 1)) := by
  refine (dats m 0 c).arrAt_eq_of_covers 4 _ (by decide +kernel) fun t hf y => ?_
  blk_simp
  rw [after0_4]
  unfold outsAt0
  dsimp only
  frame_out
  obtain ⟨y0, y1, rfl⟩ : ∃ (a : Fin 1) (b : Fin 2048), y = ix2 a b := ⟨y 0, y 1, eq_ix2 y⟩
  obtain rfl : y0 = 0 := Subsingleton.elim _ _
  rw [emb4]
  exact place_col (fun j => (blk0 m c t j y1).trans (R.hx _ _)) (R.hk _)

/-- The words the body loads are the histogram's entries. -/
theorem words (c : Dev nD) (R : Rows (m ((c : Thread nD τ).loc main_arg0)) (m ((c : Thread nD τ).loc main_arg1))) (t : Fin cfg0.N)
    (b : Nat) (hb : b < 15) (inb : ∀ a, ![b] a + S1.size a ≤ S15.size a) (h) :
    View.ld (Val := Elt Ideal) (e' := .f32) (iblk m c 1 t) (Rect.unit (s := S15) ![b] S1.size inb) (Shape.Idx.first h) = ((R.g ⟨b, hb⟩ : ℝ) : EReal) := by
  rw [blk1]
  exact (word (F := Ideal) _ b hb inb h).trans (R.hg _)

/-- The second array: the flags. -/
theorem arr3 (c : Dev nD) (R : Rows (m ((c : Thread nD τ).loc main_arg0)) (m ((c : Thread nD τ).loc main_arg1))) :
    (dats m 0 c).arrAt 3 cfg0.N = fun p : S1x32768.Idx => R.flags (ix1 (p 1)) := by
  refine (dats m 0 c).arrAt_eq_of_covers 3 _ (by decide +kernel) fun t hf y => ?_
  blk_simp
  rw [after0_3]
  unfold outsAt0
  dsimp only
  frame_out
  obtain ⟨y0, y1, rfl⟩ : ∃ (a : Fin 1) (b : Fin 2048), y = ix2 a b := ⟨y 0, y 1, eq_ix2 y⟩
  obtain rfl : y0 = 0 := Subsingleton.elim _ _
  rw [emb3]
  rw [words m c R t 0 (by norm_num), words m c R t 1 (by norm_num), words m c R t 2 (by norm_num), words m c R t 3 (by norm_num),
    words m c R t 4 (by norm_num), words m c R t 5 (by norm_num), words m c R t 6 (by norm_num), words m c R t 7 (by norm_num),
    words m c R t 8 (by norm_num), words m c R t 9 (by norm_num), words m c R t 10 (by norm_num), words m c R t 11 (by norm_num),
    words m c R t 12 (by norm_num), words m c R t 13 (by norm_num), words m c R t 14 (by norm_num)]
  exact flag_col (fun j => (blk0 m c t j y1).trans (R.hx _ _)) (R.hk _) (fun j => ((R.g j : ℝ) : EReal)) _ (R.hb _)

/-- The first array: the calibrated probabilities, a row a column. -/
theorem arr2 (c : Dev nD) (R : Rows (m ((c : Thread nD τ).loc main_arg0)) (m ((c : Thread nD τ).loc main_arg1))) :
    (dats m 0 c).arrAt 2 cfg0.N = fun p : S1000x32768.Idx => R.out (ix2 (p 1) (p 0)) := by
  refine (dats m 0 c).arrAt_eq_of_covers 2 _ (by decide +kernel) fun t hf y => ?_
  blk_simp
  rw [after0_2]
  unfold outsAt0
  dsimp only
  frame_out
  obtain ⟨y0, y1, rfl⟩ : ∃ (a : Fin 1000) (b : Fin 2048), y = ix2 a b := ⟨y 0, y 1, eq_ix2 y⟩
  rw [emb2]
  rw [words m c R t 0 (by norm_num), words m c R t 1 (by norm_num), words m c R t 2 (by norm_num), words m c R t 3 (by norm_num),
    words m c R t 4 (by norm_num), words m c R t 5 (by norm_num), words m c R t 6 (by norm_num), words m c R t 7 (by norm_num),
    words m c R t 8 (by norm_num), words m c R t 9 (by norm_num), words m c R t 10 (by norm_num), words m c R t 11 (by norm_num),
    words m c R t 12 (by norm_num), words m c R t 13 (by norm_num), words m c R t 14 (by norm_num)]
  exact out_col (fun j => (blk0 m c t j y1).trans (R.hx _ _)) (R.hk _) (fun j => ((R.g j : ℝ) : EReal)) _ (R.hb _) _ rfl y0

/-- The transposed first array at an index. -/
theorem back_apply (x : (⟨S1000x32768, .f32⟩ : BufTy).Contents (Elt Ideal)) (i : Fin 32768) (j : Fin 1000) :
    (transpose S32768x1000 [1, 0] x transposes_S1000x32768_S32768x1000_1_0 : (⟨S32768x1000, .f32⟩ : BufTy).Contents (Elt Ideal)) (ix2 i j)
      = x (ix2 j i) := by
  pointwise []

/-- The flattened one-row array at an index. -/
theorem flat_apply {α : Type} (x : S1x32768.Idx → α) (i : Fin 32768) :
    (shapeCast S32768 x shapeCasts_S1x32768_S32768) (ix1 i) = x (ix2 0 i) := by
  pointwise []

/-- What the kernel's region leaves in a result's buffer. -/
theorem region_arr (c : Dev nD) (w : Fin 5) :
    Pipeline.withArrays spec0 c (V0 m c) (fun w => (dats m 0 c).arrAt w cfg0.N) (Proc.devRef .tc (Pipeline.arrRef spec0 w))
      = (dats m 0 c).arrAt w cfg0.N :=
  Pipeline.withArrays_arr spec0 (by decide +kernel) c (V0 m c) _ w

/-- The kernel program's run: the three results are those of the rows. -/
theorem results (R : ∀ c : Dev nD, Rows (m ((c : Thread nD τ).loc main_arg0)) (m ((c : Thread nD τ).loc main_arg1))) :
    θ_run defs (onTc (τ := τ) (main (F := Ideal))) ⟨m, fun _ => 0, ρ⟩ fun r => ∀ c : Dev nD,
      r.2.mem ((c : Thread nD τ).loc main_v2) = (R c).out
      ∧ r.2.mem ((c : Thread nD τ).loc main_v3) = (R c).flags
      ∧ r.2.mem ((c : Thread nD τ).loc main_v4) = (R c).places := by
  run_from run_main m ρ
  · show StableHlo.after hostOps1 (Pipeline.withArrays spec0 c (V0 m c) fun w => (dats m 0 c).arrAt w cfg0.N) (Proc.devRef .tc main_v2) = _
    after_results
    funext p
    rw [eq_ix2 p]
    refine (back_apply _ _ _).trans ?_
    exact congrFun ((region_arr m c 2).trans (arr2 m c (R c))) _
  · show StableHlo.after hostOps1 (Pipeline.withArrays spec0 c (V0 m c) fun w => (dats m 0 c).arrAt w cfg0.N) (Proc.devRef .tc main_v3) = _
    after_results
    funext p
    rw [eq_ix1 p]
    refine (flat_apply _ _).trans ?_
    exact congrFun ((region_arr m c 3).trans (arr3 m c (R c))) _
  · show StableHlo.after hostOps1 (Pipeline.withArrays spec0 c (V0 m c) fun w => (dats m 0 c).arrAt w cfg0.N) (Proc.devRef .tc main_v4) = _
    after_results
    funext p
    rw [eq_ix1 p]
    refine (flat_apply _ _).trans ?_
    exact congrFun ((region_arr m c 4).trans (arr4 m c (R c))) _

/-- The kernel program's run: the three results, the arguments as they were. -/
theorem run (R : ∀ c : Dev nD, Rows (m ((c : Thread nD τ).loc main_arg0)) (m ((c : Thread nD τ).loc main_arg1))) :
    θ_run defs (onTc (τ := τ) (main (F := Ideal))) ⟨m, fun _ => 0, ρ⟩ fun r => ∀ c : Dev nD,
      r.2.mem ((c : Thread nD τ).loc main_v2) = (R c).out
      ∧ r.2.mem ((c : Thread nD τ).loc main_v3) = (R c).flags
      ∧ r.2.mem ((c : Thread nD τ).loc main_v4) = (R c).places
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c).1, (h.1 c).2.1, (h.1 c).2.2, (h.2.1 c).1, (h.2.1 c).2⟩)
    (θ_run_and (results m ρ R) (frame m ρ))

end Real

end Cert.KValue
-- ==== Proof.RefRun.lean ====
/- The reference program as a list of host operations, and its run read back: every result buffer holds a named
   function of the two arguments. The operations come in five pieces, each read on its own. -/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The operations up to the softmax. -/
abbrev opsSoftmax : List (HloOp τ sig (Elt F)) :=
  [ nullary main_cst (constant S_ .f32 0xFF800000#32),
    binary main_arg0 main_cst main_v0 ((fun x v => Host.reduce FloatOps.maximumf x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    nullary main_cst_0 (constant S_ .f32 0xFF800000#32),
    unary main_cst_0 main_v1 (broadcastInDim S32768 ![] bcast_S_S32768 : (⟨S_, .f32⟩ : BufTy).Contents (Elt F) → (⟨S32768, .f32⟩ : BufTy).Contents (Elt F)),
    binary main_v1 main_v0 main_v2 (maximumf : (⟨S32768, .f32⟩ : BufTy).Contents (Elt F) → (⟨S32768, .f32⟩ : BufTy).Contents (Elt F) → (⟨S32768, .f32⟩ : BufTy).Contents (Elt F)),
    unary main_v2 main_v3 (broadcastInDim S32768x1 ![0] bcast_S32768_S32768x1_0 : (⟨S32768, .f32⟩ : BufTy).Contents (Elt F) → (⟨S32768x1, .f32⟩ : BufTy).Contents (Elt F)),
    unary main_v3 main_v4 (broadcastInDim S32768x1000 ![0, 1] bcast_S32768x1_S32768x1000_0_1 : (⟨S32768x1, .f32⟩ : BufTy).Contents (Elt F) → (⟨S32768x1000, .f32⟩ : BufTy).Contents (Elt F)),
    binary main_arg0 main_v4 main_v5 (subf : (⟨S32768x1000, .f32⟩ : BufTy).Contents (Elt F) → (⟨S32768x1000, .f32⟩ : BufTy).Contents (Elt F) → (⟨S32768x1000, .f32⟩ : BufTy).Contents (Elt F)),
    unary main_v5 main_v6 (Host.exp : (⟨S32768x1000, .f32⟩ : BufTy).Contents (Elt F) → (⟨S32768x1000, .f32⟩ : BufTy).Contents (Elt F)),
    nullary main_cst_1 (constant S_ .f32 0x00000000#32),
    binary main_v6 main_cst_1 main_v7 ((fun x v => Host.reduceAdd x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    unary main_v7 main_v8 (broadcastInDim S32768x1 ![0] bcast_S32768_S32768x1_0 : (⟨S32768, .f32⟩ : BufTy).Contents (Elt F) → (⟨S32768x1, .f32⟩ : BufTy).Contents (Elt F)),
    unary main_v8 main_v9 (broadcastInDim S32768x1000 ![0, 1] bcast_S32768x1_S32768x1000_0_1 : (⟨S32768x1, .f32⟩ : BufTy).Contents (Elt F) → (⟨S32768x1000, .f32⟩ : BufTy).Contents (Elt F)),
    binary main_v6 main_v9 main_v10 (Host.divf : (⟨S32768x1000, .f32⟩ : BufTy).Contents (Elt F) → (⟨S32768x1000, .f32⟩ : BufTy).Contents (Elt F) → (⟨S32768x1000, .f32⟩ : BufTy).Contents (Elt F)) ]

/-- The operations taking the row maximum and the place of its first occurrence. -/
abbrev opsTop : List (HloOp τ sig (Elt F)) :=
  [ nullary main_cst_2 (constant S_ .f32 0xFF800000#32),
    binary main_v10 main_cst_2 main_v11 ((fun x v => Host.reduce FloatOps.maximumf x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    TRef.nullary (TRef.of (T := ⟨S32768x1000, .i32⟩) main_call0_v0) (iotaInDim S32768x1000 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S32768x1000, .f32⟩) main_v10) (TRef.of (T := ⟨S32768x1000, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmax_f32_i32 x y u v reducesTo_S32768x1000_S32768_d1 h_S_ j).1),
    TRef.quaternary (TRef.of (T := ⟨S32768x1000, .f32⟩) main_v10) (TRef.of (T := ⟨S32768x1000, .i32⟩) main_call0_v0) (TRef.of (T := ⟨S_, .f32⟩) main_call0_cst) (TRef.of (T := ⟨S_, .i32⟩) main_call0_c) (TRef.of (T := ⟨S32768, .i32⟩) main_v12) (fun x y u v j => (Host.argReduce reducer_argmax_f32_i32 x y u v reducesTo_S32768x1000_S32768_d1 h_S_ j).2) ]

/-- The operations looking up the bin of the confidence. -/
abbrev opsBin : List (HloOp τ sig (Elt F)) :=
  [ nullary main_cst_3 (constant S_ .f32 0x41700000#32),
    unary main_cst_3 main_v13 (broadcastInDim S32768 ![] bcast_S_S32768 : (⟨S_, .f32⟩ : BufTy).Contents (Elt F) → (⟨S32768, .f32⟩ : BufTy).Contents (Elt F)),
    binary main_v11 main_v13 main_v14 (mulf : (⟨S32768, .f32⟩ : BufTy).Contents (Elt F) → (⟨S32768, .f32⟩ : BufTy).Contents (Elt F) → (⟨S32768, .f32⟩ : BufTy).Contents (Elt F)),
    unary main_v14 main_v15 (Host.ceil : (⟨S32768, .f32⟩ : BufTy).Contents (Elt F) → (⟨S32768, .f32⟩ : BufTy).Contents (Elt F)),
    unary main_v15 main_v16 (fptosi 32 : (⟨S32768, .f32⟩ : BufTy).Contents (Elt F) → (⟨S32768, .i32⟩ : BufTy).Contents (Elt F)),
    nullary main_c (constantI S_ 32 1#32),
    unary main_c main_v17 (broadcastInDim S32768 ![] bcast_S_S32768 : (⟨S_, .i32⟩ : BufTy).Contents (Elt F) → (⟨S32768, .i32⟩ : BufTy).Contents (Elt F)),
    binary main_v16 main_v17 main_v18 (subi : (⟨S32768, .i32⟩ : BufTy).Contents (Elt F) → (⟨S32768, .i32⟩ : BufTy).Contents (Elt F) → (⟨S32768, .i32⟩ : BufTy).Contents (Elt F)),
    nullary main_c_4 (constantI S_ 32 0#32),
    nullary main_c_5 (constantI S_ 32 14#32),
    TRef.unary (TRef.of (T := ⟨S_, .i32⟩) main_c_4) (TRef.of (T := ⟨S_, .i32⟩) main_call1_v0) id,
    TRef.unary (TRef.of (T := ⟨S_, .i32⟩) main_call1_v0) (TRef.of (T := ⟨S32768, .i32⟩) main_call1_v1) (broadcastInDim S32768 ![] bcast_S_S32768),
    TRef.binary (TRef.of (T := ⟨S32768, .i32⟩) main_call1_v1) (TRef.of (T := ⟨S32768, .i32⟩) main_v18) (TRef.of (T := ⟨S32768, .i32⟩) main_call1_v2) maxsi,
    TRef.unary (TRef.of (T := ⟨S_, .i32⟩) main_c_5) (TRef.of (T := ⟨S_, .i32⟩) main_call1_v3) id,
    TRef.unary (TRef.of (T := ⟨S_, .i32⟩) main_call1_v3) (TRef.of (T := ⟨S32768, .i32⟩) main_call1_v4) (broadcastInDim S32768 ![] bcast_S_S32768),
    TRef.binary (TRef.of (T := ⟨S32768, .i32⟩) main_call1_v4) (TRef.of (T := ⟨S32768, .i32⟩) main_call1_v2) (TRef.of (T := ⟨S32768, .i32⟩) main_v19) minsi,
    nullary main_c_6 (constantI S_ 32 0#32),
    unary main_c_6 main_v20 (broadcastInDim S32768 ![] bcast_S_S32768 : (⟨S_, .i32⟩ : BufTy).Contents (Elt F) → (⟨S32768, .i32⟩ : BufTy).Contents (Elt F)),
    binary main_v19 main_v20 main_v21 (cmpi .slt : (⟨S32768, .i32⟩ : BufTy).Contents (Elt F) → (⟨S32768, .i32⟩ : BufTy).Contents (Elt F) → (⟨S32768, .i1⟩ : BufTy).Contents (Elt F)),
    nullary main_c_7 (constantI S_ 32 15#32),
    unary main_c_7 main_v22 (broadcastInDim S32768 ![] bcast_S_S32768 : (⟨S_, .i32⟩ : BufTy).Contents (Elt F) → (⟨S32768, .i32⟩ : BufTy).Contents (Elt F)),
    binary main_v19 main_v22 main_v23 (addi : (⟨S32768, .i32⟩ : BufTy).Contents (Elt F) → (⟨S32768, .i32⟩ : BufTy).Contents (Elt F) → (⟨S32768, .i32⟩ : BufTy).Contents (Elt F)),
    ternary main_v21 main_v23 main_v19 main_v24 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v24 main_v25 (broadcastInDim S32768x1 ![0] bcast_S32768_S32768x1_0 : (⟨S32768, .i32⟩ : BufTy).Contents (Elt F) → (⟨S32768x1, .i32⟩ : BufTy).Contents (Elt F)),
    binary main_arg1 main_v25 main_v26 ((fun x i => Host.gather gather_S15_S32768x1_S32768_n_0_n_n_0_1_1 x i) : (⟨S15, .f32⟩ : BufTy).Contents (Elt F) → (⟨S32768x1, .i32⟩ : BufTy).Contents (Elt F) → (⟨S32768, .f32⟩ : BufTy).Contents (Elt F)) ]

/-- The operations of the validity flag, the estimate and the one-hot rows. -/
abbrev opsFlags : List (HloOp τ sig (Elt F)) :=
  [ nullary main_cst_8 (constant S_ .f32 0xBF800000#32),
    unary main_cst_8 main_v27 (broadcastInDim S32768 ![] bcast_S_S32768 : (⟨S_, .f32⟩ : BufTy).Contents (Elt F) → (⟨S32768, .f32⟩ : BufTy).Contents (Elt F)),
    binary main_v26 main_v27 main_v28 (cmpf .une : (⟨S32768, .f32⟩ : BufTy).Contents (Elt F) → (⟨S32768, .f32⟩ : BufTy).Contents (Elt F) → (⟨S32768, .i1⟩ : BufTy).Contents (Elt F)),
    unary main_v28 main_v29 (uitofp .f32 : (⟨S32768, .i1⟩ : BufTy).Contents (Elt F) → (⟨S32768, .f32⟩ : BufTy).Contents (Elt F)),
    nullary main_cst_9 (constant S_ .f32 0xBF800000#32),
    unary main_cst_9 main_v30 (broadcastInDim S32768 ![] bcast_S_S32768 : (⟨S_, .f32⟩ : BufTy).Contents (Elt F) → (⟨S32768, .f32⟩ : BufTy).Contents (Elt F)),
    binary main_v26 main_v30 main_v31 (cmpf .oeq : (⟨S32768, .f32⟩ : BufTy).Contents (Elt F) → (⟨S32768, .f32⟩ : BufTy).Contents (Elt F) → (⟨S32768, .i1⟩ : BufTy).Contents (Elt F)),
    TRef.ternary (TRef.of (T := ⟨S32768, .i1⟩) main_v31) (TRef.of (T := ⟨S32768, .f32⟩) main_v11) (TRef.of (T := ⟨S32768, .f32⟩) main_v26) (TRef.of (T := ⟨S32768, .f32⟩) main_v32) select,
    TRef.unary (TRef.of (T := ⟨S32768, .i32⟩) main_v12) (TRef.of (T := ⟨S32768x1, .i32⟩) main_call3_v0) (broadcastInDim S32768x1 ![0] bcast_S32768_S32768x1_0),
    TRef.nullary (TRef.of (T := ⟨S1x1000, .i32⟩) main_call3_v1) (iotaInDim S1x1000 32 1),
    TRef.unary (TRef.of (T := ⟨S32768x1, .i32⟩) main_call3_v0) (TRef.of (T := ⟨S32768x1000, .i32⟩) main_call3_v2) (broadcastInDim S32768x1000 ![0, 1] bcast_S32768x1_S32768x1000_0_1),
    TRef.unary (TRef.of (T := ⟨S1x1000, .i32⟩) main_call3_v1) (TRef.of (T := ⟨S32768x1000, .i32⟩) main_call3_v3) (broadcastInDim S32768x1000 ![0, 1] bcast_S1x1000_S32768x1000_0_1),
    TRef.binary (TRef.of (T := ⟨S32768x1000, .i32⟩) main_call3_v2) (TRef.of (T := ⟨S32768x1000, .i32⟩) main_call3_v3) (TRef.of (T := ⟨S32768x1000, .i1⟩) main_call3_v4) (cmpi .eq),
    TRef.unary (TRef.of (T := ⟨S32768x1000, .i1⟩) main_call3_v4) (TRef.of (T := ⟨S32768x1000, .f32⟩) main_v33) (uitofp .f32) ]

/-- The operations that mask, rescale and renormalize. -/
abbrev opsOut : List (HloOp τ sig (Elt F)) :=
  [ nullary main_cst_10 (constant S_ .f32 0x3F800000#32),
    unary main_cst_10 main_v34 (broadcastInDim S32768x1000 ![] bcast_S_S32768x1000 : (⟨S_, .f32⟩ : BufTy).Contents (Elt F) → (⟨S32768x1000, .f32⟩ : BufTy).Contents (Elt F)),
    binary main_v34 main_v33 main_v35 (subf : (⟨S32768x1000, .f32⟩ : BufTy).Contents (Elt F) → (⟨S32768x1000, .f32⟩ : BufTy).Contents (Elt F) → (⟨S32768x1000, .f32⟩ : BufTy).Contents (Elt F)),
    binary main_v10 main_v35 main_v36 (mulf : (⟨S32768x1000, .f32⟩ : BufTy).Contents (Elt F) → (⟨S32768x1000, .f32⟩ : BufTy).Contents (Elt F) → (⟨S32768x1000, .f32⟩ : BufTy).Contents (Elt F)),
    nullary main_cst_11 (constant S_ .f32 0x00000000#32),
    binary main_v36 main_cst_11 main_v37 ((fun x v => Host.reduceAdd x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    unary main_v37 main_v38 (broadcastInDim S32768x1 ![0] bcast_S32768_S32768x1_0 : (⟨S32768, .f32⟩ : BufTy).Contents (Elt F) → (⟨S32768x1, .f32⟩ : BufTy).Contents (Elt F)),
    nullary main_cst_12 (constant S_ .f32 0x3F800000#32),
    unary main_cst_12 main_v39 (broadcastInDim S32768 ![] bcast_S_S32768 : (⟨S_, .f32⟩ : BufTy).Contents (Elt F) → (⟨S32768, .f32⟩ : BufTy).Contents (Elt F)),
    binary main_v39 main_v32 main_v40 (subf : (⟨S32768, .f32⟩ : BufTy).Contents (Elt F) → (⟨S32768, .f32⟩ : BufTy).Contents (Elt F) → (⟨S32768, .f32⟩ : BufTy).Contents (Elt F)),
    unary main_v40 main_v41 (broadcastInDim S32768x1 ![0] bcast_S32768_S32768x1_0 : (⟨S32768, .f32⟩ : BufTy).Contents (Elt F) → (⟨S32768x1, .f32⟩ : BufTy).Contents (Elt F)),
    unary main_v41 main_v42 (broadcastInDim S32768x1000 ![0, 1] bcast_S32768x1_S32768x1000_0_1 : (⟨S32768x1, .f32⟩ : BufTy).Contents (Elt F) → (⟨S32768x1000, .f32⟩ : BufTy).Contents (Elt F)),
    binary main_v42 main_v36 main_v43 (mulf : (⟨S32768x1000, .f32⟩ : BufTy).Contents (Elt F) → (⟨S32768x1000, .f32⟩ : BufTy).Contents (Elt F) → (⟨S32768x1000, .f32⟩ : BufTy).Contents (Elt F)),
    unary main_v38 main_v44 (broadcastInDim S32768x1000 ![0, 1] bcast_S32768x1_S32768x1000_0_1 : (⟨S32768x1, .f32⟩ : BufTy).Contents (Elt F) → (⟨S32768x1000, .f32⟩ : BufTy).Contents (Elt F)),
    binary main_v43 main_v44 main_v45 (Host.divf : (⟨S32768x1000, .f32⟩ : BufTy).Contents (Elt F) → (⟨S32768x1000, .f32⟩ : BufTy).Contents (Elt F) → (⟨S32768x1000, .f32⟩ : BufTy).Contents (Elt F)),
    nullary main_cst_13 (constant S_ .f32 0x3F800000#32),
    unary main_cst_13 main_v46 (broadcastInDim S32768x1000 ![] bcast_S_S32768x1000 : (⟨S_, .f32⟩ : BufTy).Contents (Elt F) → (⟨S32768x1000, .f32⟩ : BufTy).Contents (Elt F)),
    binary main_v46 main_v33 main_v47 (subf : (⟨S32768x1000, .f32⟩ : BufTy).Contents (Elt F) → (⟨S32768x1000, .f32⟩ : BufTy).Contents (Elt F) → (⟨S32768x1000, .f32⟩ : BufTy).Contents (Elt F)),
    binary main_v45 main_v47 main_v48 (mulf : (⟨S32768x1000, .f32⟩ : BufTy).Contents (Elt F) → (⟨S32768x1000, .f32⟩ : BufTy).Contents (Elt F) → (⟨S32768x1000, .f32⟩ : BufTy).Contents (Elt F)),
    unary main_v32 main_v49 (broadcastInDim S32768x1 ![0] bcast_S32768_S32768x1_0 : (⟨S32768, .f32⟩ : BufTy).Contents (Elt F) → (⟨S32768x1, .f32⟩ : BufTy).Contents (Elt F)),
    unary main_v49 main_v50 (broadcastInDim S32768x1000 ![0, 1] bcast_S32768x1_S32768x1000_0_1 : (⟨S32768x1, .f32⟩ : BufTy).Contents (Elt F) → (⟨S32768x1000, .f32⟩ : BufTy).Contents (Elt F)),
    binary main_v50 main_v33 main_v51 (mulf : (⟨S32768x1000, .f32⟩ : BufTy).Contents (Elt F) → (⟨S32768x1000, .f32⟩ : BufTy).Contents (Elt F) → (⟨S32768x1000, .f32⟩ : BufTy).Contents (Elt F)),
    binary main_v48 main_v51 main_v52 (addf : (⟨S32768x1000, .f32⟩ : BufTy).Contents (Elt F) → (⟨S32768x1000, .f32⟩ : BufTy).Contents (Elt F) → (⟨S32768x1000, .f32⟩ : BufTy).Contents (Elt F)),
    nullary main_cst_14 (constant S_ .f32 0x00000000#32),
    binary main_v52 main_cst_14 main_v53 ((fun x v => Host.reduceAdd x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    unary main_v53 main_v54 (broadcastInDim S32768x1 ![0] bcast_S32768_S32768x1_0 : (⟨S32768, .f32⟩ : BufTy).Contents (Elt F) → (⟨S32768x1, .f32⟩ : BufTy).Contents (Elt F)),
    unary main_v54 main_v55 (broadcastInDim S32768x1000 ![0, 1] bcast_S32768x1_S32768x1000_0_1 : (⟨S32768x1, .f32⟩ : BufTy).Contents (Elt F) → (⟨S32768x1000, .f32⟩ : BufTy).Contents (Elt F)),
    binary main_v52 main_v55 main_v56 (Host.divf : (⟨S32768x1000, .f32⟩ : BufTy).Contents (Elt F) → (⟨S32768x1000, .f32⟩ : BufTy).Contents (Elt F) → (⟨S32768x1000, .f32⟩ : BufTy).Contents (Elt F)) ]

/-- The buffers the operations of the softmax piece touch are the program's. -/
theorem opsSoftmax_sub : (opsSoftmax : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- The buffers the operations of the largest-entries piece touch are the program's. -/
theorem opsTop_sub : (opsTop : List (HloOp τ sig (Elt F))).Forall fun op => op.bufs ⊆ tcRefs τ sig :=
  ⟨nullary_bufs_sub .., binary_bufs_sub .., nullary_bufs_sub .., nullary_bufs_sub .., nullary_bufs_sub .., quaternary_bufs_sub .., quaternary_bufs_sub ..⟩

/-- The buffers the operations of the bins piece touch are the program's. -/
theorem opsBin_sub : (opsBin : List (HloOp τ sig (Elt F))).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- The buffers the operations of the flags piece touch are the program's. -/
theorem opsFlags_sub : (opsFlags : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., ternary_bufs_sub .., unary_bufs_sub .., nullary_bufs_sub .., unary_bufs_sub .., unary_bufs_sub .., binary_bufs_sub .., unary_bufs_sub ..⟩

/-- The buffers the operations of the last piece touch are the program's. -/
theorem opsOut_sub : (opsOut : List (HloOp τ sig (Elt F))).Forall fun op => op.bufs ⊆ tcRefs τ sig :=
  ⟨nullary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-! ## The values -/

/-- One value per row, repeated along the row. -/
abbrev rowwise {α : Type} (v : S32768.Idx → α) : S32768x1000.Idx → α :=
  broadcastInDim S32768x1000 ![0, 1] bcast_S32768x1_S32768x1000_0_1 (broadcastInDim S32768x1 ![0] bcast_S32768_S32768x1_0 v)

/-- One value for all rows. -/
abbrev allRows {α : Type} (v : S_.Idx → α) : S32768.Idx → α := broadcastInDim S32768 ![] bcast_S_S32768 v

/-- One value for all entries. -/
abbrev allEntries {α : Type} (v : S_.Idx → α) : S32768x1000.Idx → α := broadcastInDim S32768x1000 ![] bcast_S_S32768x1000 v

/-- The largest entry of each row. -/
def topVal (p : FVec F S32768x1000 .f32) : FVec F S32768 .f32 :=
  Host.reduce FloatOps.maximumf p (constant S_ .f32 0xFF800000#32) reducesTo_S32768x1000_S32768_d1 h_S_

/-- The sum of each row. -/
def sumVal (p : FVec F S32768x1000 .f32) : FVec F S32768 .f32 :=
  Host.reduceAdd p (constant S_ .f32 0x00000000#32) reducesTo_S32768x1000_S32768_d1 h_S_

/-- The exponentials of the entries less their row's largest. -/
def expVal (x : FVec F S32768x1000 .f32) : FVec F S32768x1000 .f32 :=
  Host.exp (subf x (rowwise (maximumf (allRows (constant S_ .f32 0xFF800000#32)) (topVal x))))

/-- Every entry divided by its row's sum. -/
def normVal (e : FVec F S32768x1000 .f32) : FVec F S32768x1000 .f32 := Host.divf e (rowwise (sumVal e))

/-- The place of the first largest entry of each row. -/
def argVal (p : FVec F S32768x1000 .f32) : IVec S32768 32 := fun j =>
  (Host.argReduce reducer_argmax_f32_i32 p (iotaInDim S32768x1000 32 1) (constant S_ .f32 0xFF800000#32) (constantI S_ 32 0#32) reducesTo_S32768x1000_S32768_d1 h_S_ j).2

/-- The bin of each confidence. -/
def binVal (conf : FVec F S32768 .f32) : IVec S32768 32 :=
  minsi (allRows (constantI S_ 32 14#32)) (maxsi (allRows (constantI S_ 32 0#32))
    (subi (fptosi 32 (Host.ceil (mulf conf (allRows (constant S_ .f32 0x41700000#32))))) (allRows (constantI S_ 32 1#32))))

/-- The histogram's entry at each bin, a negative bin counted from the end. -/
def lookVal (hist : FVec F S15 .f32) (b : IVec S32768 32) : FVec F S32768 .f32 :=
  Host.gather gather_S15_S32768x1_S32768_n_0_n_n_0_1_1 hist (broadcastInDim S32768x1 ![0] bcast_S32768_S32768x1_0
    (select (cmpi .slt b (allRows (constantI S_ 32 0#32))) (addi b (allRows (constantI S_ 32 15#32))) b))

/-- The flag of the rows whose bin was filled. -/
def validVal (h : FVec F S32768 .f32) : FVec F S32768 .f32 := uitofp .f32 (cmpf .une h (allRows (constant S_ .f32 0xBF800000#32)))

/-- The estimate: the bin's entry, and the confidence where the bin was not filled. -/
def estVal (conf h : FVec F S32768 .f32) : FVec F S32768 .f32 :=
  select (cmpf .oeq h (allRows (constant S_ .f32 0xBF800000#32))) conf h

/-- One at each row's place, zero elsewhere. -/
def hotVal (p : IVec S32768 32) : FVec F S32768x1000 .f32 :=
  uitofp .f32 (cmpi .eq (rowwise p) (broadcastInDim S32768x1000 ![0, 1] bcast_S1x1000_S32768x1000_0_1 (iotaInDim S1x1000 32 1)))

/-- One less the one-hot rows. -/
def coldVal (hot : FVec F S32768x1000 .f32) : FVec F S32768x1000 .f32 :=
  subf (allEntries (constant S_ .f32 0x3F800000#32)) hot

/-- The estimate at each row's place, the other entries rescaled to add up to the rest. -/
def mixVal (p hot : FVec F S32768x1000 .f32) (est : FVec F S32768 .f32) : FVec F S32768x1000 .f32 :=
  addf (mulf (Host.divf (mulf (rowwise (subf (allRows (constant S_ .f32 0x3F800000#32)) est)) (mulf p (coldVal hot)))
      (rowwise (sumVal (mulf p (coldVal hot))))) (coldVal hot)) (mulf (rowwise est) hot)

/-- The first result, of the two arguments. -/
def outVal (x : FVec F S32768x1000 .f32) (hist : FVec F S15 .f32) : FVec F S32768x1000 .f32 :=
  normVal (mixVal (normVal (expVal x)) (hotVal (argVal (normVal (expVal x))))
    (estVal (topVal (normVal (expVal x))) (lookVal hist (binVal (topVal (normVal (expVal x)))))))

/-! ## What each piece leaves -/

/-- Two pieces after one another are the second after the first. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 8192 in
set_option maxHeartbeats 4000000 in
/-- What the softmax piece leaves in the buffer of value 10. -/
theorem soft_v10 (V : Valuation τ sig (Elt F)) : after opsSoftmax V (Proc.devRef .tc main_v10) = normVal (expVal (V (Proc.devRef .tc main_arg0))) := by
  simp only [opsSoftmax, TRef.binary, TRef.nullary, TRef.ternary, TRef.quaternary, TRef.unary, TRef.toBuf, TRef.ofBuf, cast_eq]; after_results_simp <;> rfl

set_option maxRecDepth 8192 in
set_option maxHeartbeats 4000000 in
/-- The softmax piece leaves argument 0 as it was. -/
theorem soft_arg0 (V : Valuation τ sig (Elt F)) : after opsSoftmax V (Proc.devRef .tc main_arg0) = (V (Proc.devRef .tc main_arg0)) := by
  simp only [opsSoftmax, TRef.binary, TRef.nullary, TRef.ternary, TRef.quaternary, TRef.unary, TRef.toBuf, TRef.ofBuf, cast_eq]; after_results_simp <;> rfl

set_option maxRecDepth 8192 in
set_option maxHeartbeats 4000000 in
/-- The softmax piece leaves argument 1 as it was. -/
theorem soft_arg1 (V : Valuation τ sig (Elt F)) : after opsSoftmax V (Proc.devRef .tc main_arg1) = (V (Proc.devRef .tc main_arg1)) := by
  simp only [opsSoftmax, TRef.binary, TRef.nullary, TRef.ternary, TRef.quaternary, TRef.unary, TRef.toBuf, TRef.ofBuf, cast_eq]; after_results_simp <;> rfl

set_option maxRecDepth 8192 in
set_option maxHeartbeats 4000000 in
/-- What the largest-entries piece leaves in the buffer of value 11. -/
theorem top_v11 (V : Valuation τ sig (Elt F)) : after opsTop V (Proc.devRef .tc main_v11) = topVal (V (Proc.devRef .tc main_v10)) := by
  simp only [opsTop, TRef.binary, TRef.nullary, TRef.ternary, TRef.quaternary, TRef.unary, TRef.toBuf, TRef.ofBuf, cast_eq]; after_results_simp <;> rfl

set_option maxRecDepth 8192 in
set_option maxHeartbeats 4000000 in
/-- What the largest-entries piece leaves in the buffer of value 12. -/
theorem top_v12 (V : Valuation τ sig (Elt F)) : after opsTop V (Proc.devRef .tc main_v12) = argVal (V (Proc.devRef .tc main_v10)) := by
  simp only [opsTop, TRef.binary, TRef.nullary, TRef.ternary, TRef.quaternary, TRef.unary, TRef.toBuf, TRef.ofBuf, cast_eq]; after_results_simp <;> rfl

set_option maxRecDepth 8192 in
set_option maxHeartbeats 4000000 in
/-- What the largest-entries piece leaves in the buffer of value 10. -/
theorem top_v10 (V : Valuation τ sig (Elt F)) : after opsTop V (Proc.devRef .tc main_v10) = (V (Proc.devRef .tc main_v10)) := by
  simp only [opsTop, TRef.binary, TRef.nullary, TRef.ternary, TRef.quaternary, TRef.unary, TRef.toBuf, TRef.ofBuf, cast_eq]; after_results_simp <;> rfl

set_option maxRecDepth 8192 in
set_option maxHeartbeats 4000000 in
/-- The largest-entries piece leaves argument 0 as it was. -/
theorem top_arg0 (V : Valuation τ sig (Elt F)) : after opsTop V (Proc.devRef .tc main_arg0) = (V (Proc.devRef .tc main_arg0)) := by
  simp only [opsTop, TRef.binary, TRef.nullary, TRef.ternary, TRef.quaternary, TRef.unary, TRef.toBuf, TRef.ofBuf, cast_eq]; after_results_simp <;> rfl

set_option maxRecDepth 8192 in
set_option maxHeartbeats 4000000 in
/-- The largest-entries piece leaves argument 1 as it was. -/
theorem top_arg1 (V : Valuation τ sig (Elt F)) : after opsTop V (Proc.devRef .tc main_arg1) = (V (Proc.devRef .tc main_arg1)) := by
  simp only [opsTop, TRef.binary, TRef.nullary, TRef.ternary, TRef.quaternary, TRef.unary, TRef.toBuf, TRef.ofBuf, cast_eq]; after_results_simp <;> rfl

set_option maxRecDepth 8192 in
set_option maxHeartbeats 4000000 in
/-- What the bins piece leaves in the buffer of value 26. -/
theorem bin_v26 (V : Valuation τ sig (Elt F)) : after opsBin V (Proc.devRef .tc main_v26) = lookVal (V (Proc.devRef .tc main_arg1)) (binVal (V (Proc.devRef .tc main_v11))) := by
  simp only [opsBin, TRef.binary, TRef.nullary, TRef.ternary, TRef.quaternary, TRef.unary, TRef.toBuf, TRef.ofBuf, cast_eq]; after_results_simp <;> rfl

set_option maxRecDepth 8192 in
set_option maxHeartbeats 4000000 in
/-- What the bins piece leaves in the buffer of value 10. -/
theorem bin_v10 (V : Valuation τ sig (Elt F)) : after opsBin V (Proc.devRef .tc main_v10) = (V (Proc.devRef .tc main_v10)) := by
  simp only [opsBin, TRef.binary, TRef.nullary, TRef.ternary, TRef.quaternary, TRef.unary, TRef.toBuf, TRef.ofBuf, cast_eq]; after_results_simp <;> rfl

set_option maxRecDepth 8192 in
set_option maxHeartbeats 4000000 in
/-- What the bins piece leaves in the buffer of value 11. -/
theorem bin_v11 (V : Valuation τ sig (Elt F)) : after opsBin V (Proc.devRef .tc main_v11) = (V (Proc.devRef .tc main_v11)) := by
  simp only [opsBin, TRef.binary, TRef.nullary, TRef.ternary, TRef.quaternary, TRef.unary, TRef.toBuf, TRef.ofBuf, cast_eq]; after_results_simp <;> rfl

set_option maxRecDepth 8192 in
set_option maxHeartbeats 4000000 in
/-- What the bins piece leaves in the buffer of value 12. -/
theorem bin_v12 (V : Valuation τ sig (Elt F)) : after opsBin V (Proc.devRef .tc main_v12) = (V (Proc.devRef .tc main_v12)) := by
  simp only [opsBin, TRef.binary, TRef.nullary, TRef.ternary, TRef.quaternary, TRef.unary, TRef.toBuf, TRef.ofBuf, cast_eq]; after_results_simp <;> rfl

set_option maxRecDepth 8192 in
set_option maxHeartbeats 4000000 in
/-- The bins piece leaves argument 0 as it was. -/
theorem bin_arg0 (V : Valuation τ sig (Elt F)) : after opsBin V (Proc.devRef .tc main_arg0) = (V (Proc.devRef .tc main_arg0)) := by
  simp only [opsBin, TRef.binary, TRef.nullary, TRef.ternary, TRef.quaternary, TRef.unary, TRef.toBuf, TRef.ofBuf, cast_eq]; after_results_simp <;> rfl

set_option maxRecDepth 8192 in
set_option maxHeartbeats 4000000 in
/-- The bins piece leaves argument 1 as it was. -/
theorem bin_arg1 (V : Valuation τ sig (Elt F)) : after opsBin V (Proc.devRef .tc main_arg1) = (V (Proc.devRef .tc main_arg1)) := by
  simp only [opsBin, TRef.binary, TRef.nullary, TRef.ternary, TRef.quaternary, TRef.unary, TRef.toBuf, TRef.ofBuf, cast_eq]; after_results_simp <;> rfl

set_option maxRecDepth 8192 in
set_option maxHeartbeats 4000000 in
/-- What the flags piece leaves in the buffer of value 29. -/
theorem flags_v29 (V : Valuation τ sig (Elt F)) : after opsFlags V (Proc.devRef .tc main_v29) = validVal (V (Proc.devRef .tc main_v26)) := by
  simp only [opsFlags, TRef.binary, TRef.nullary, TRef.ternary, TRef.quaternary, TRef.unary, TRef.toBuf, TRef.ofBuf, cast_eq]; after_results_simp <;> rfl

set_option maxRecDepth 8192 in
set_option maxHeartbeats 4000000 in
/-- What the flags piece leaves in the buffer of value 32. -/
theorem flags_v32 (V : Valuation τ sig (Elt F)) : after opsFlags V (Proc.devRef .tc main_v32) = estVal (V (Proc.devRef .tc main_v11)) (V (Proc.devRef .tc main_v26)) := by
  simp only [opsFlags, TRef.binary, TRef.nullary, TRef.ternary, TRef.quaternary, TRef.unary, TRef.toBuf, TRef.ofBuf, cast_eq]; after_results_simp <;> rfl

set_option maxRecDepth 8192 in
set_option maxHeartbeats 4000000 in
/-- What the flags piece leaves in the buffer of value 33. -/
theorem flags_v33 (V : Valuation τ sig (Elt F)) : after opsFlags V (Proc.devRef .tc main_v33) = hotVal (V (Proc.devRef .tc main_v12)) := by
  simp only [opsFlags, TRef.binary, TRef.nullary, TRef.ternary, TRef.quaternary, TRef.unary, TRef.toBuf, TRef.ofBuf, cast_eq]; after_results_simp <;> rfl

set_option maxRecDepth 8192 in
set_option maxHeartbeats 4000000 in
/-- What the flags piece leaves in the buffer of value 10. -/
theorem flags_v10 (V : Valuation τ sig (Elt F)) : after opsFlags V (Proc.devRef .tc main_v10) = (V (Proc.devRef .tc main_v10)) := by
  simp only [opsFlags, TRef.binary, TRef.nullary, TRef.ternary, TRef.quaternary, TRef.unary, TRef.toBuf, TRef.ofBuf, cast_eq]; after_results_simp <;> rfl

set_option maxRecDepth 8192 in
set_option maxHeartbeats 4000000 in
/-- What the flags piece leaves in the buffer of value 12. -/
theorem flags_v12 (V : Valuation τ sig (Elt F)) : after opsFlags V (Proc.devRef .tc main_v12) = (V (Proc.devRef .tc main_v12)) := by
  simp only [opsFlags, TRef.binary, TRef.nullary, TRef.ternary, TRef.quaternary, TRef.unary, TRef.toBuf, TRef.ofBuf, cast_eq]; after_results_simp <;> rfl

set_option maxRecDepth 8192 in
set_option maxHeartbeats 4000000 in
/-- The flags piece leaves argument 0 as it was. -/
theorem flags_arg0 (V : Valuation τ sig (Elt F)) : after opsFlags V (Proc.devRef .tc main_arg0) = (V (Proc.devRef .tc main_arg0)) := by
  simp only [opsFlags, TRef.binary, TRef.nullary, TRef.ternary, TRef.quaternary, TRef.unary, TRef.toBuf, TRef.ofBuf, cast_eq]; after_results_simp <;> rfl

set_option maxRecDepth 8192 in
set_option maxHeartbeats 4000000 in
/-- The flags piece leaves argument 1 as it was. -/
theorem flags_arg1 (V : Valuation τ sig (Elt F)) : after opsFlags V (Proc.devRef .tc main_arg1) = (V (Proc.devRef .tc main_arg1)) := by
  simp only [opsFlags, TRef.binary, TRef.nullary, TRef.ternary, TRef.quaternary, TRef.unary, TRef.toBuf, TRef.ofBuf, cast_eq]; after_results_simp <;> rfl

set_option maxRecDepth 8192 in
set_option maxHeartbeats 4000000 in
/-- What the last piece leaves in the buffer of value 56. -/
theorem out_v56 (V : Valuation τ sig (Elt F)) : after opsOut V (Proc.devRef .tc main_v56) = normVal (mixVal (V (Proc.devRef .tc main_v10)) (V (Proc.devRef .tc main_v33)) (V (Proc.devRef .tc main_v32))) := by
  simp only [opsOut, TRef.binary, TRef.nullary, TRef.ternary, TRef.quaternary, TRef.unary, TRef.toBuf, TRef.ofBuf, cast_eq]; after_results_simp <;> rfl

set_option maxRecDepth 8192 in
set_option maxHeartbeats 4000000 in
/-- What the last piece leaves in the buffer of value 29. -/
theorem out_v29 (V : Valuation τ sig (Elt F)) : after opsOut V (Proc.devRef .tc main_v29) = (V (Proc.devRef .tc main_v29)) := by
  simp only [opsOut, TRef.binary, TRef.nullary, TRef.ternary, TRef.quaternary, TRef.unary, TRef.toBuf, TRef.ofBuf, cast_eq]; after_results_simp <;> rfl

set_option maxRecDepth 8192 in
set_option maxHeartbeats 4000000 in
/-- What the last piece leaves in the buffer of value 12. -/
theorem out_v12 (V : Valuation τ sig (Elt F)) : after opsOut V (Proc.devRef .tc main_v12) = (V (Proc.devRef .tc main_v12)) := by
  simp only [opsOut, TRef.binary, TRef.nullary, TRef.ternary, TRef.quaternary, TRef.unary, TRef.toBuf, TRef.ofBuf, cast_eq]; after_results_simp <;> rfl

set_option maxRecDepth 8192 in
set_option maxHeartbeats 4000000 in
/-- The last piece leaves argument 0 as it was. -/
theorem out_arg0 (V : Valuation τ sig (Elt F)) : after opsOut V (Proc.devRef .tc main_arg0) = (V (Proc.devRef .tc main_arg0)) := by
  simp only [opsOut, TRef.binary, TRef.nullary, TRef.ternary, TRef.quaternary, TRef.unary, TRef.toBuf, TRef.ofBuf, cast_eq]; after_results_simp <;> rfl

set_option maxRecDepth 8192 in
set_option maxHeartbeats 4000000 in
/-- The last piece leaves argument 1 as it was. -/
theorem out_arg1 (V : Valuation τ sig (Elt F)) : after opsOut V (Proc.devRef .tc main_arg1) = (V (Proc.devRef .tc main_arg1)) := by
  simp only [opsOut, TRef.binary, TRef.nullary, TRef.ternary, TRef.quaternary, TRef.unary, TRef.toBuf, TRef.ofBuf, cast_eq]; after_results_simp <;> rfl

/-! ## The run -/

/-- All operations of the program in order. -/
abbrev ops : List (HloOp τ sig (Elt F)) := opsSoftmax ++ (opsTop ++ (opsBin ++ (opsFlags ++ opsOut)))

set_option maxRecDepth 8192 in
set_option maxHeartbeats 4000000 in
/-- The program is its list of operations. -/
theorem main_eq (c : Dev nD) : main (F := F) c = seq ops := rfl

/-- The program has no scoped buffers. -/
theorem scopedRefs_eq : (Finset.univ.filter fun b : Ref sig .tc => b.isScoped) = ∅ := by decide

/-- The program has no scoped semaphores. -/
theorem scopedSems_eq : (Finset.univ.filter fun sm : SemLoc sig => sm.isScoped .tc) = ∅ := by decide

/-- The buffers the operations of the whole list touch are the program's. -/
theorem ops_sub : (ops : List (HloOp τ sig (Elt F))).Forall fun op => op.bufs ⊆ tcRefs τ sig := by
  simp only [ops, List.forall_append]
  exact ⟨opsSoftmax_sub, opsTop_sub, opsBin_sub, opsFlags_sub, opsOut_sub⟩

/-- The operations of the softmax piece draw no fresh values. -/
theorem opsSoftmax_fresh : ∀ op ∈ (opsSoftmax : List (HloOp τ sig (Elt F))), op.fresh = ∅ := by
  intro _ h; (repeat (cases h with | head => rfl | tail _ h => ?_)); exact nomatch h
/-- The operations of the largest-entries piece draw no fresh values. -/
theorem opsTop_fresh : ∀ op ∈ (opsTop : List (HloOp τ sig (Elt F))), op.fresh = ∅ := by
  intro _ h; (repeat (cases h with | head => rfl | tail _ h => ?_)); exact nomatch h
/-- The operations of the bins piece draw no fresh values. -/
theorem opsBin_fresh : ∀ op ∈ (opsBin : List (HloOp τ sig (Elt F))), op.fresh = ∅ := by
  intro _ h; (repeat (cases h with | head => rfl | tail _ h => ?_)); exact nomatch h
/-- The operations of the flags piece draw no fresh values. -/
theorem opsFlags_fresh : ∀ op ∈ (opsFlags : List (HloOp τ sig (Elt F))), op.fresh = ∅ := by
  intro _ h; (repeat (cases h with | head => rfl | tail _ h => ?_)); exact nomatch h
/-- The operations of the last piece draw no fresh values. -/
theorem opsOut_fresh : ∀ op ∈ (opsOut : List (HloOp τ sig (Elt F))), op.fresh = ∅ := by
  intro _ h; (repeat (cases h with | head => rfl | tail _ h => ?_)); exact nomatch h
/-- The operations of the whole list draw no fresh values. -/
theorem ops_fresh : ∀ op ∈ (ops : List (HloOp τ sig (Elt F))), op.fresh = ∅ := fun op h =>
  (List.mem_append.1 h).elim (opsSoftmax_fresh op) fun h => (List.mem_append.1 h).elim (opsTop_fresh op) fun h =>
    (List.mem_append.1 h).elim (opsBin_fresh op) fun h => (List.mem_append.1 h).elim (opsFlags_fresh op) (opsOut_fresh op)

/-- Every weakly fair execution of the reference terminates, its three results holding the named functions of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56) = outVal (m ((c.tc : Thread nD τ).loc main_arg0)) (m ((c.tc : Thread nD τ).loc main_arg1))
      ∧ r.2.mem ((c.tc : Thread nD τ).loc main_v29)
        = validVal (lookVal (m ((c.tc : Thread nD τ).loc main_arg1)) (binVal (topVal (normVal (expVal (m ((c.tc : Thread nD τ).loc main_arg0)))))))
      ∧ r.2.mem ((c.tc : Thread nD τ).loc main_v12) = argVal (normVal (expVal (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have e0 : ∀ c, launchContents m c (Proc.devRef .tc main_arg0) = m ((c.tc : Thread nD τ).loc main_arg0) := fun _ => rfl
  have e1 : ∀ c, launchContents m c (Proc.devRef .tc main_arg1) = m ((c.tc : Thread nD τ).loc main_arg1) := fun _ => rfl
  refine (θ_run defs _ _).mono (fun _ h c => ⟨(h c main_v56).trans ?_, (h c main_v29).trans ?_, (h c main_v12).trans ?_, (h c main_arg0).trans ?_, (h c main_arg1).trans ?_⟩)
    (run_seq scopedRefs_eq scopedSems_eq defs main (fun _ => ops) main_eq (fun _ => ops_sub) m ρ (fun _ => ops_fresh))
  · rw [after_two, after_two, after_two, after_two, out_v56, flags_v10, flags_v32, flags_v33, bin_v10, bin_v11, bin_v12, bin_v26, top_v10, top_v11, top_v12, top_arg1, soft_v10, soft_arg1, e0, e1]; rfl
  · rw [after_two, after_two, after_two, after_two, out_v29, flags_v29, bin_v26, top_v11, top_arg1, soft_v10, soft_arg1, e0, e1]
  · rw [after_two, after_two, after_two, after_two, out_v12, flags_v12, bin_v12, top_v12, soft_v10, e0]
  · rw [after_two, after_two, after_two, after_two, out_arg0, flags_arg0, bin_arg0, top_arg0, soft_arg0, e0]
  · rw [after_two, after_two, after_two, after_two, out_arg1, flags_arg1, bin_arg1, top_arg1, soft_arg1, e1]

end Cert.RefRun

end
-- ==== Proof.RSteps.lean ====
/- The reference's steps read at an index. -/
module

public import proofs.«01_k».proof.Proof.RefRun
public import proofs.«01_k».proof.Proof.Math
public import Idealize.ShloMosaic.Lib.Routing.OpsSet

@[expose] public section

noncomputable section

namespace Cert.RValue

open Cert.ReferenceIdeal Cert.ReferenceIdeal.Gen Cert.RefRun Cert.Math Idealize.ShloMosaic Idealize.ShloMosaic.TcCoe Idealize.SL.Sem

/-! ## Each step at an index -/

section Steps
variable (x : FVec Ideal S32768x1000 .f32) (hist : FVec Ideal S15 .f32) (i : Fin 32768) (r : Fin 1000)

/-- A row's largest entry is the fold by maximum of its entries. -/
theorem topVal_apply : topVal (F := Ideal) x (ix1 i) = Finset.univ.fold max (Ideal.ofBits .f32 0xFF800000#32) (fun k : Fin 1000 => x (ix2 i k)) := by
  pointwise [topVal]

/-- A row's sum is the sum of its entries. -/
theorem sumVal_apply : sumVal (F := Ideal) x (ix1 i) = ∑ k : Fin 1000, x (ix2 i k) := by
  pointwise [sumVal]

/-- The exponential of an entry less its row's number, at an index. -/
theorem shifted_apply (t : FVec Ideal S32768 .f32) :
    (Host.exp (subf x (rowwise (maximumf (allRows (constant S_ .f32 0xFF800000#32)) t)))) (ix2 i r)
      = Ideal.exp (x (ix2 i r) - max (Ideal.ofBits .f32 0xFF800000#32) (t (ix1 i))) := by
  pointwise []

/-- The exponentials at an index: of the entry less its row's largest. -/
theorem expVal_apply : expVal (F := Ideal) x (ix2 i r)
    = Ideal.exp (x (ix2 i r) - max (Ideal.ofBits .f32 0xFF800000#32) (topVal (F := Ideal) x (ix1 i))) := by
  unfold expVal
  exact shifted_apply _ _ _ _

/-- A normalized entry is the entry divided by its row's sum. -/
theorem normVal_apply : normVal (F := Ideal) x (ix2 i r) = Ideal.div (x (ix2 i r)) (sumVal (F := Ideal) x (ix1 i)) := by
  pointwise [normVal]

/-- The bin of a row, a word computed from its confidence. -/
theorem binVal_apply (c : FVec Ideal S32768 .f32) : binVal (F := Ideal) c (ix1 i)
    = IntOp.minsi 14#32 (IntOp.maxsi 0#32 (IntOp.subi (FloatOps.fptosi (F := Ideal) (φ := .f32) 32
        (Ideal.liftRound Int.ceil (c (ix1 i) * Ideal.ofBits .f32 0x41700000#32))) 1#32)) := by
  pointwise [binVal]

/-- The flag of a row. -/
theorem validVal_apply (h : FVec Ideal S32768 .f32) : validVal (F := Ideal) h (ix1 i)
    = FloatOps.uitofp (F := Ideal) .f32 (BitVec.ofBool (decide (h (ix1 i) ≠ Ideal.ofBits .f32 0xBF800000#32))) := by
  pointwise [validVal]

/-- The estimate of a row: its confidence where its bin was not filled, the bin's entry elsewhere. -/
theorem estVal_apply (c h : FVec Ideal S32768 .f32) : estVal (F := Ideal) c h (ix1 i)
    = if h (ix1 i) = Ideal.ofBits .f32 0xBF800000#32 then c (ix1 i) else h (ix1 i) := by
  pointwise [estVal]

/-- The one-hot rows at an index: whether the row's place is the column. -/
theorem hotVal_apply (p : IVec S32768 32) : hotVal (F := Ideal) p (ix2 i r)
    = FloatOps.uitofp (F := Ideal) .f32 (IntOp.cmpi .eq (p (ix1 i)) (BitVec.ofNat 32 r.val)) := by
  pointwise [hotVal]

/-- One less the one-hot rows, at an index. -/
theorem coldVal_apply (h : FVec Ideal S32768x1000 .f32) : coldVal (F := Ideal) h (ix2 i r) = 1 - h (ix2 i r) := by
  pointwise [coldVal]

/-- The rescaled and refilled rows at an index, their sums given. -/
theorem mixed_apply (p h c : FVec Ideal S32768x1000 .f32) (e s : FVec Ideal S32768 .f32) :
    (addf (mulf (Host.divf (mulf (rowwise (subf (allRows (constant S_ .f32 0x3F800000#32)) e)) (mulf p c))
      (rowwise s)) c) (mulf (rowwise e) h)) (ix2 i r)
      = Ideal.div ((1 - e (ix1 i)) * (p (ix2 i r) * c (ix2 i r))) (s (ix1 i)) * c (ix2 i r) + e (ix1 i) * h (ix2 i r) := by
  pointwise []

/-- A product of two arrays at an index. -/
theorem masked_apply (p c : FVec Ideal S32768x1000 .f32) : (mulf p c) (ix2 i r) = p (ix2 i r) * c (ix2 i r) := by
  pointwise []

/-- The rescaled and refilled rows at an index. -/
theorem mixVal_apply (p h : FVec Ideal S32768x1000 .f32) (e : FVec Ideal S32768 .f32) : mixVal (F := Ideal) p h e (ix2 i r)
    = Ideal.div ((1 - e (ix1 i)) * (p (ix2 i r) * (1 - h (ix2 i r)))) (∑ k, p (ix2 i k) * (1 - h (ix2 i k)))
        * (1 - h (ix2 i r)) + e (ix1 i) * h (ix2 i r) := by
  unfold mixVal
  rw [mixed_apply, sumVal_apply]
  simp only [masked_apply, coldVal_apply]

/-- The index a row looks its entry up at: its bin, a negative one counted from the end. -/
theorem index_apply (b : IVec S32768 32) : (broadcastInDim S32768x1 ![0] bcast_S32768_S32768x1_0
    (select (cmpi .slt b (allRows (constantI S_ 32 0#32))) (addi b (allRows (constantI S_ 32 15#32))) b)) (ix2 i 0)
      = Scalar.select (IntOp.cmpi .slt (b (ix1 i)) 0#32) (IntOp.addi (b (ix1 i)) 15#32) (b (ix1 i)) := by
  pointwise []

/-- The entry looked up at a row whose bin is `b`. -/
theorem lookVal_apply (w : IVec S32768 32) (b : Fin 15) (hw : w (ix1 i) = BitVec.ofNat 32 b.val) :
    lookVal (F := Ideal) hist w (ix1 i) = hist (ix1 b) := by
  unfold lookVal
  refine Routing.gather_take1 gather_S15_S32768x1_S32768_n_0_n_n_0_1_1 rfl rfl rfl rfl hist _ i b ?_ (by norm_num)
  refine (index_apply i w).trans ?_
  rw [hw]
  clear hw
  revert b
  decide

end Steps

end Cert.RValue
-- ==== Proof.RArg.lean ====
/- The reference's argmax of a row of real entries: the first largest place. -/
module

public import proofs.«01_k».proof.Proof.RefRun
public import proofs.«01_k».proof.Proof.Math
public import Idealize.ShloMosaic.Lib.Routing.OpsSet

@[expose] public section

noncomputable section

namespace Cert.RValue

open Cert.ReferenceIdeal Cert.ReferenceIdeal.Gen Cert.RefRun Cert.Math Idealize.ShloMosaic Idealize.ShloMosaic.TcCoe Idealize.SL.Sem

/-! ## The argmax of a row -/

/-- The printed argmax folds by the larger value, the smaller place among equals. -/
theorem reducer_eq (a b : EReal × BitVec 32) : reducer_argmax_f32_i32 (F := Ideal) a b
    = (if b.1 < a.1 then a.1 else b.1, if b.1 < a.1 ∨ (a.1 = b.1 ∧ a.2.toInt < b.2.toInt) then a.2 else b.2) := by
  unfold reducer_argmax_f32_i32
  have h3 : ∀ x y : BitVec 32, IntOp.cmpi .slt x y = BitVec.ofBool (decide (x.toInt < y.toInt)) := fun x y => rfl
  have h4 : ∀ x y : EReal, FloatOps.cmpf (F := Ideal) (φ := .f32) .ogt x y = BitVec.ofBool (decide (y < x)) := fun _ _ => rfl
  have h5 : ∀ x y : EReal, FloatOps.cmpf (F := Ideal) (φ := .f32) .oeq x y = BitVec.ofBool (decide (x = y)) := fun _ _ => rfl
  have h6 : ∀ x : EReal, FloatOps.cmpf (F := Ideal) (φ := .f32) .une x x = BitVec.ofBool false := fun x => by
    show BitVec.ofBool (decide (x ≠ x)) = _
    simp
  have h7 : ∀ p q r : Bool, ∀ {α β : Type} (s s' : α) (t t' : β), ((Scalar.select (IntOp.ori (BitVec.ofBool p) (BitVec.ofBool false)) s s',
      Scalar.select (IntOp.ori (IntOp.ori (BitVec.ofBool p) (BitVec.ofBool false)) (IntOp.andi (BitVec.ofBool q) (BitVec.ofBool r))) t t') : α × β)
      = (if p then s else s', if p || (q && r) then t else t') := by
    intro p q r α β s s' t t'
    cases p <;> cases q <;> cases r <;> rfl
  dsimp only
  rw [h3, h4, h5, h6, h7]
  simp only [decide_eq_true_eq, Bool.or_eq_true, Bool.and_eq_true]

/-- The pairs an argmax over the columns folds at a row are the row's entries with their places. -/
theorem mem_fiber {α β : Type} {n m : Nat} (p : (⟨2, ![n, m]⟩ : Shape).Idx → α) (y : (⟨2, ![n, m]⟩ : Shape).Idx → β)
    (h : (⟨2, ![n, m]⟩ : Shape).ReducesTo [1] ⟨1, ![n]⟩) (i : Fin n) (q : α × β) :
    q ∈ Host.argReduceFiber p y h (ix1 i) ↔ ∃ j : Fin m, q = (p (ix2 i j), y (ix2 i j)) := by
  unfold Host.argReduceFiber
  simp only [List.mem_map, List.mem_filter, List.mem_finRange, true_and, decide_eq_true_eq]
  constructor
  · rintro ⟨a, ha, rfl⟩
    generalize (Shape.rowMajor _).symm a = w at ha ⊢
    have hv : (h.drop w 0 : Nat) = w 0 := Shape.ReducesTo.drop_apply_val h w 0
    rw [ha] at hv
    have hw : w = ix2 i (w 1) := by
      funext d
      match d with
      | ⟨0, _⟩ => exact Fin.ext hv.symm
      | ⟨1, _⟩ => rfl
    exact ⟨w 1, congrArg (fun v => (p v, y v)) hw⟩
  · rintro ⟨j, rfl⟩
    refine ⟨Shape.rowMajor _ (ix2 i j), ?_, by rw [Equiv.symm_apply_apply]⟩
    rw [Equiv.symm_apply_apply]
    have hv : (h.drop (ix2 i j) 0 : Nat) = ix2 i j 0 := Shape.ReducesTo.drop_apply_val h (ix2 i j) 0
    funext d
    match d with
    | ⟨0, _⟩ => exact Fin.ext hv

/-- The printed argmax over the columns, from minus infinity, is at a row of real entries its first largest place. -/
theorem argReduce_row {n m : Nat} {u : Shape} (p : FVec Ideal ⟨2, ![n, m]⟩ .f32) (y : IVec ⟨2, ![n, m]⟩ 32) (ib : FVec Ideal u .f32)
    (ip : IVec u 32) (h : (⟨2, ![n, m]⟩ : Shape).ReducesTo [1] ⟨1, ![n]⟩) (hu : 0 < u.numel) (hm : m < 2 ^ 31)
    (hib : ib (Shape.Idx.first hu) = (⊥ : EReal)) (i : Fin n) (hy : ∀ j, y (ix2 i j) = BitVec.ofNat 32 j.val)
    (f : Fin m → ℝ) (hp : ∀ k, p (ix2 i k) = ((f k : ℝ) : EReal)) (k : Fin m) (hk : FirstMax f k) :
    (Host.argReduce (reducer_argmax_f32_i32 (F := Ideal)) p y ib ip h hu (ix1 i)).2 = BitVec.ofNat 32 k.val := by
  have key : ∀ q, q ∈ Host.argReduceFiber p y h (ix1 i) ↔ ∃ j : Fin m, q = (((f j : ℝ) : EReal), BitVec.ofNat 32 j.val) := by
    intro q
    rw [mem_fiber]
    simp only [hp, hy]
  rw [Ideal.argReduce_eq_reduce2, Host.reduce2_eq_foldl_fiber]
  obtain ⟨h1, -, h3⟩ := argmax_fold (f := reducer_argmax_f32_i32 (F := Ideal)) reducer_eq
    (ib (Shape.Idx.first hu), ip (Shape.Idx.first hu)) (Host.argReduceFiber p y h (ix1 i))
  generalize (Host.argReduceFiber p y h (ix1 i)).foldl (reducer_argmax_f32_i32 (F := Ideal)) _ = w at h1 h3 ⊢
  have hkw := h3 _ ((key _).2 ⟨k, rfl⟩)
  dsimp only at hkw
  rcases h1 with rfl | h1
  · exact absurd hkw.1 (by rw [hib, not_le]; exact EReal.bot_lt_coe _)
  · obtain ⟨j, rfl⟩ := (key _).1 h1
    dsimp only at hkw ⊢
    have e : ∀ a : Fin m, (BitVec.ofNat 32 a.val).toInt = a.val := fun a =>
      StableHlo.Predicate.toInt_ofNat_small _ (by have := a.isLt; omega)
    have hj : f j = f k := le_antisymm (hk j).1 (EReal.coe_le_coe_iff.1 hkw.1)
    have h4 := hkw.2 (by rw [hj])
    rw [e, e] at h4
    have h5 := (hk j).2 hj
    rw [show j = k from Fin.ext (by omega)]

/-- A constant array holds the number of its pattern everywhere. -/
theorem constant_at (s : Shape) (w : BitVec 32) (i : s.Idx) : (constant (F := Ideal) s .f32 w i : EReal) = Ideal.ofBits .f32 w := rfl

/-- The places of an array counted along the columns. -/
theorem iota_at {n m : Nat} (i : Fin n) (j : Fin m) : iotaInDim (⟨2, ![n, m]⟩ : Shape) 32 1 (ix2 i j) = BitVec.ofNat 32 j.val := rfl

/-- The places an argmax over the columns finds, as a function of the rows. -/
theorem argVal_eq (p : FVec Ideal S32768x1000 .f32) : argVal (F := Ideal) p = fun j => (Host.argReduce reducer_argmax_f32_i32 p (iotaInDim S32768x1000 32 1) (constant (F := Ideal) S_ .f32 0xFF800000#32) (constantI S_ 32 0#32) reducesTo_S32768x1000_S32768_d1 h_S_ j).2 := rfl

/-- The place found in a row of real entries is its first largest place. -/
theorem argVal_row (p : FVec Ideal S32768x1000 .f32) (i : Fin 32768) (f : Fin 1000 → ℝ) (hp : ∀ k, p (ix2 i k) = ((f k : ℝ) : EReal))
    (k : Fin 1000) (hk : FirstMax f k) : argVal (F := Ideal) p (ix1 i) = BitVec.ofNat 32 k.val :=
  (congrFun (argVal_eq p) (ix1 i)).trans (argReduce_row p (iotaInDim S32768x1000 32 1) (constant (F := Ideal) S_ .f32 0xFF800000#32)
    (constantI S_ 32 0#32) reducesTo_S32768x1000_S32768_d1 h_S_ (by norm_num) ((constant_at _ _ _).trans ofBits_bot) i (iota_at i) f hp k hk)

end Cert.RValue
-- ==== Proof.RValue.lean ====
/- The reference's results read a row at a time, the row's logits being real numbers. -/
module

public import proofs.«01_k».proof.Proof.RSteps
public import proofs.«01_k».proof.Proof.RArg

@[expose] public section

noncomputable section

namespace Cert.RValue

open Cert.ReferenceIdeal Cert.ReferenceIdeal.Gen Cert.RefRun Cert.Math Idealize.ShloMosaic Idealize.ShloMosaic.TcCoe Idealize.SL.Sem

/-! ## A row of real logits -/

section Row
variable {x : FVec Ideal S32768x1000 .f32} {i : Fin 32768} {l : Fin 1000 → ℝ} {k : Fin 1000}

/-- The row's largest entry. -/
theorem top_row {f : Fin 1000 → ℝ} (hx : ∀ j, x (ix2 i j) = ((f j : ℝ) : EReal)) (hk : FirstMax f k) :
    topVal (F := Ideal) x (ix1 i) = ((f k : ℝ) : EReal) := by
  rw [topVal_apply, ofBits_bot, fold_max (k := k) fun j => by rw [hx, hx]; exact EReal.coe_le_coe_iff.2 (hk j).1, hx]

/-- The row's exponentials. -/
theorem exp_row (hx : ∀ j, x (ix2 i j) = ((l j : ℝ) : EReal)) (hk : FirstMax l k) (j : Fin 1000) :
    expVal (F := Ideal) x (ix2 i j) = ((ex l k j : ℝ) : EReal) := by
  rw [expVal_apply, top_row hx hk, ofBits_bot, max_eq_right bot_le, hx, ← EReal.coe_sub]
  rfl

/-- The row's softmax. -/
theorem softmax_row (hx : ∀ j, x (ix2 i j) = ((l j : ℝ) : EReal)) (hk : FirstMax l k) (j : Fin 1000) :
    normVal (expVal (F := Ideal) x) (ix2 i j) = ((ex l k j / tot l k : ℝ) : EReal) := by
  rw [normVal_apply, sumVal_apply]
  simp only [exp_row hx hk]
  rw [sum_real]
  exact div_real _ (by have := one_lt_tot l k; unfold tot at this; linarith)

/-- The softmax's first largest place is the logits'. -/
theorem softmax_firstMax (hk : FirstMax l k) : FirstMax (fun j => ex l k j / tot l k) k :=
  hk.congr fun a b => by
    have := one_lt_tot l k
    rw [div_le_div_iff_of_pos_right (by linarith), ex_le_iff]

/-- The third result: the first largest place. -/
theorem place_row (hx : ∀ j, x (ix2 i j) = ((l j : ℝ) : EReal)) (hk : FirstMax l k) :
    argVal (normVal (expVal (F := Ideal) x)) (ix1 i) = BitVec.ofNat 32 k.val :=
  argVal_row _ i _ (softmax_row hx hk) k (softmax_firstMax hk)

/-- The confidence: one over the sum of the exponentials. -/
theorem conf_row (hx : ∀ j, x (ix2 i j) = ((l j : ℝ) : EReal)) (hk : FirstMax l k) :
    topVal (normVal (expVal (F := Ideal) x)) (ix1 i) = ((1 / tot l k : ℝ) : EReal) := by
  rw [top_row (softmax_row hx hk) (softmax_firstMax hk), ex_self]

/-- The row of one at the place, zero elsewhere. -/
theorem hot_row (p : IVec S32768 32) (hp : p (ix1 i) = BitVec.ofNat 32 k.val) (j : Fin 1000) :
    hotVal (F := Ideal) p (ix2 i j) = ((hot k j : ℝ) : EReal) := by
  rw [hotVal_apply, hp]
  unfold hot
  show (((IntOp.cmpi .eq (BitVec.ofNat 32 k.val) (BitVec.ofNat 32 j.val)).toNat : ℝ) : EReal) = _
  congr 1
  by_cases h : j = k
  · subst h
    simp [IntOp.cmpi]
  · have : (BitVec.ofNat 32 k.val == BitVec.ofNat 32 j.val) = false := beq_eq_false_iff_ne.2 fun e => h (Fin.ext (by
      have := congrArg BitVec.toNat e
      simp only [BitVec.toNat_ofNat] at this
      have := k.isLt
      have := j.isLt
      omega))
    rw [if_neg h]
    simp [IntOp.cmpi, this]

/-- The calibrated row of the reference, given the estimate. -/
theorem out_row (hx : ∀ j, x (ix2 i j) = ((l j : ℝ) : EReal)) (hk : FirstMax l k) (e : FVec Ideal S32768 .f32) (E : ℝ)
    (he : e (ix1 i) = ((E : ℝ) : EReal)) (j : Fin 1000) :
    normVal (mixVal (normVal (expVal (F := Ideal) x)) (hotVal (argVal (normVal (expVal (F := Ideal) x)))) e) (ix2 i j)
      = ((mix l k E j : ℝ) : EReal) := by
  have hm : ∀ j, mixVal (normVal (expVal (F := Ideal) x)) (hotVal (argVal (normVal (expVal (F := Ideal) x)))) e (ix2 i j)
      = ((mix l k E j : ℝ) : EReal) := fun j => by
    rw [mixVal_apply]
    simp only [softmax_row hx hk, hot_row _ (place_row hx hk), he]
    exact mix_entry l k E j
  rw [normVal_apply, sumVal_apply]
  simp only [hm]
  rw [sum_real, sum_mix, div_real _ one_ne_zero, div_one]

end Row

/-! ## The three results -/

section Results
variable {x : FVec Ideal S32768x1000 .f32} {hist : FVec Ideal S15 .f32} (R : Rows x hist)

/-- The entry looked up at a row. -/
theorem look_row (i : Fin 32768) : lookVal (F := Ideal) hist (binVal (topVal (normVal (expVal x)))) (ix1 i) = ((R.g (R.b i) : ℝ) : EReal) := by
  refine (lookVal_apply hist i _ (R.b i) ?_).trans (R.hg _)
  rw [binVal_apply, conf_row (R.hx i) (R.hk i)]
  exact R.hb i

/-- The reference's first result is that of the rows. -/
theorem outVal_eq : outVal (F := Ideal) x hist = R.out := by
  funext p
  obtain ⟨i, j, rfl⟩ : ∃ (i : Fin 32768) (j : Fin 1000), p = ix2 i j := ⟨p 0, p 1, eq_ix2 p⟩
  unfold outVal
  refine out_row (R.hx _) (R.hk _) _ _ ?_ _
  rw [estVal_apply, look_row R, conf_row (R.hx _) (R.hk _)]
  exact estOf_eq _ _

/-- The reference's second result is that of the rows. -/
theorem validVal_eq : validVal (F := Ideal) (lookVal hist (binVal (topVal (normVal (expVal x))))) = R.flags := by
  funext p
  obtain ⟨i, rfl⟩ : ∃ i : Fin 32768, p = ix1 i := ⟨p 0, eq_ix1 p⟩
  rw [validVal_apply, look_row R]
  rfl

/-- The reference's third result is that of the rows. -/
theorem argVal_eq_places : argVal (normVal (expVal (F := Ideal) x)) = R.places := by
  funext p
  obtain ⟨i, rfl⟩ : ∃ i : Fin 32768, p = ix1 i := ⟨p 0, eq_ix1 p⟩
  exact place_row (R.hx _) (R.hk _)

end Results

end Cert.RValue
-- ==== Proof.Finite.lean ====
/- The precondition read back: every logit and every entry of the histogram is a real number. -/
module

public import proofs.«01_k».proof.Pre_finite
public import proofs.«01_k».proof.Proof.Math
public import Idealize.ShloMosaic.Lib.ReduceAll

@[expose] public section

noncomputable section

namespace Cert.Finite

open Cert.Pre_finite Cert.Math Idealize.ShloMosaic

/-- A scalar broadcasts to the logits' shape. -/
theorem bcast_S_S32768x1000 : S_.BroadcastsInDim S32768x1000 (![] : Fin 0 → Fin S32768x1000.rank) := by decide
/-- The logits' shape reduces to a scalar. -/
theorem reducesTo_S32768x1000_S_d0_1 : S32768x1000.ReducesTo [0, 1] S_ := by decide
/-- A scalar has an element. -/
theorem h_S_ : 0 < S_.numel := by decide
/-- A scalar broadcasts to the histogram's shape. -/
theorem bcast_S_S15 : S_.BroadcastsInDim S15 (![] : Fin 0 → Fin S15.rank) := by decide
/-- The histogram's shape reduces to a scalar. -/
theorem reducesTo_S15_S_d0 : S15.ReducesTo [0] S_ := by decide

/-- What the predicate states of its shapes. -/
theorem facts : Cert.Pre_finite.Facts where
  bcast_S_S32768x1000 := bcast_S_S32768x1000
  reducesTo_S32768x1000_S_d0_1 := reducesTo_S32768x1000_S_d0_1
  h_S_ := h_S_
  bcast_S_S15 := bcast_S_S15
  reducesTo_S15_S_d0 := reducesTo_S15_S_d0

/-- A number of size below plus infinity is real. -/
theorem real_of_abs_lt (a : EReal) (h : max a (-a) < ⊤) : ∃ r : ℝ, a = (r : EReal) := by
  induction a using EReal.rec with
  | bot => simp at h
  | top => simp at h
  | coe r => exact ⟨r, rfl⟩

/-- The comparison of a size with plus infinity, one. -/
theorem real_of_cmp {s : Shape} {hb : S_.BroadcastsInDim s (![] : Fin 0 → Fin s.rank)} (x : FVec Ideal s .f32) (p : s.Idx)
    (h : cmpf .olt (Host.absf x) (broadcastInDim s ![] hb (constant (F := Ideal) S_ .f32 0x7F800000#32)) p = 1#1) :
    ∃ r : ℝ, x p = (r : EReal) := by
  have e : BitVec.ofBool (decide (max (x p) (-(x p)) < Ideal.ofBits .f32 0x7F800000#32)) = 1#1 := h
  rw [ofBits_top] at e
  refine real_of_abs_lt (x p) ?_
  by_contra hn
  rw [decide_eq_false hn] at e
  exact absurd e (by decide)

/-- Where the predicate holds both arrays hold real numbers. -/
theorem real_of_finite [Cert.Pre_finite.Facts] (x : FVec Ideal S32768x1000 .f32) (g : FVec Ideal S15 .f32)
    (h : Cert.Pre_finite.fn (F := Ideal) x g = fun _ => 1#1) :
    (∀ p, ∃ r : ℝ, x p = (r : EReal)) ∧ ∀ p, ∃ r : ℝ, g p = (r : EReal) := by
  have h0 := congrFun h (Shape.Idx.first h_S_)
  dsimp only [Cert.Pre_finite.fn] at h0
  have hand : ∀ a b : BitVec 1, IntOp.andi a b = 1#1 → a = 1#1 ∧ b = 1#1 := by decide
  obtain ⟨h1, h2⟩ := hand _ _ h0
  haveI : Subsingleton S_.Idx := ⟨fun a b => funext fun d => d.elim0⟩
  exact ⟨fun p => real_of_cmp x p (Host.reduce_andi_all _ _ _ _ _ h1 p), fun p => real_of_cmp g p (Host.reduce_andi_all _ _ _ _ _ h2 p)⟩

end Cert.Finite
-- ==== Proof.lean ====
/- The proof of the certificate's claim: the kernel's and the reference's frames, and, the logits and the histogram's entries
   being real numbers, the equality of the two programs' three results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KValue
public import proofs.«01_k».proof.Proof.RValue
public import proofs.«01_k».proof.Proof.Finite
public import Idealize.ShloMosaic.Adequacy
public import Idealize.ShloMosaic.Init

@[expose] public section

noncomputable section

namespace Cert.Proof

open Idealize.ShloMosaic Idealize.SL.Sem Cert.Math

/-- The reference runs, its arguments end as they were and its counters at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => ⟨(h c).2.2.2.1, (h c).2.2.2.2⟩,
      sem_eq_zero_of_no_sems (by decide) r.2⟩)
    (Cert.RefRun.run (F := Ideal) m g)

/-- The two programs' three results are equal where the logits and the histogram's entries are real numbers. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  haveI := Cert.Finite.facts
  have hR : ∀ c : Dev Cert.KernelIdeal.nD,
      Nonempty (Rows (m ((c.tc : Thread Cert.KernelIdeal.nD Cert.KernelIdeal.τ).loc Cert.KernelIdeal.main_arg0))
        (m ((c.tc : Thread Cert.KernelIdeal.nD Cert.KernelIdeal.τ).loc Cert.KernelIdeal.main_arg1))) := fun c => by
    obtain ⟨h1, h2⟩ := Cert.Finite.real_of_finite _ _ (hpre c)
    exact Rows.exists h1 h2
  obtain ⟨R⟩ := Classical.nonempty_pi.2 hR
  refine ⟨fun c => (R c).out, fun c => (R c).flags, fun c => (R c).places, Cert.KValue.run m g R, ?_⟩
  refine (θ_run Cert.ReferenceIdeal.defs _ _).mono (fun r h c => ?_) (Cert.RefRun.run (F := Ideal) m' g')
  obtain ⟨h1, h2, h3, h4, h5⟩ := h c
  rw [(hagree c).1, (hagree c).2] at h1 h2
  rw [(hagree c).1] at h3
  exact ⟨h1.trans (Cert.RValue.outVal_eq (R c)), h2.trans (Cert.RValue.validVal_eq (R c)),
    h3.trans (Cert.RValue.argVal_eq_places (R c)), h4, h5⟩

/-- Everything the certificate claims. -/
theorem claim : Cert.Claim := ⟨Cert.Kernel.Gen.facts, Cert.KernelIdeal.Gen.facts, Cert.ReferenceIdeal.Gen.facts, Cert.Finite.facts,
  fun m g _ => Cert.Kernel.Gen.frame m g,
  fun m g _ => Cert.KernelIdeal.Gen.frame m g,
  fun m g _ => Cert.KernelIdeal.Gen.frame m g,
  fun m g _ => frame_reference m g,
  fun m g _ => frame_reference m g,
  trivial,
  algebraic⟩

end Cert.Proof

end
